-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_named_KernelIdeal [hPre_finite_and_named_KernelIdeal : Cert.Pre_finite_and_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_named_ReferenceIdeal [hPre_finite_and_named_ReferenceIdeal : Cert.Pre_finite_and_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_named_KernelIdeal [hKernelIdeal : Cert.KernelIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_named_ReferenceIdeal [hReferenceIdeal : Cert.ReferenceIdeal.Facts] [hPre_finite_and_named_ReferenceIdeal : Cert.Pre_finite_and_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_named_KernelIdeal [hKernelIdeal : Cert.KernelIdeal.Facts] [hReferenceIdeal : Cert.ReferenceIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_named_KernelIdeal : Cert.Pre_finite_and_named_KernelIdeal.Facts) (hPre_finite_and_named_ReferenceIdeal : Cert.Pre_finite_and_named_ReferenceIdeal.Facts),
    quiescent_Kernel (hKernel := hKernel)
    ∧ quiescent_KernelIdeal (hKernelIdeal := hKernelIdeal)
    ∧ quiescent_KernelIdeal_pre_finite_and_named_KernelIdeal (hKernelIdeal := hKernelIdeal) (hPre_finite_and_named_KernelIdeal := hPre_finite_and_named_KernelIdeal)
    ∧ quiescent_ReferenceIdeal (hReferenceIdeal := hReferenceIdeal)
    ∧ quiescent_ReferenceIdeal_pre_finite_and_named_ReferenceIdeal (hReferenceIdeal := hReferenceIdeal) (hPre_finite_and_named_ReferenceIdeal := hPre_finite_and_named_ReferenceIdeal)
    ∧ preserves_Kernel_KernelIdeal
    ∧ algebraic_KernelIdeal_ReferenceIdeal_pre_finite_and_named_KernelIdeal (hKernelIdeal := hKernelIdeal) (hReferenceIdeal := hReferenceIdeal) (hPre_finite_and_named_KernelIdeal := hPre_finite_and_named_KernelIdeal)
-- ==== Pre_finite_and_named_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512 : S_.BroadcastsInDim S512 (![] : Fin 0 → Fin S512.rank)

variable [Facts]

def fn {F : FTy → Type} [FloatOps F] (main_arg0 : FVec F S512x1024 .bf16) (main_arg1 : FVec F S1024x8192 .bf16) (main_arg2 : IVec S512 32) : IVec S512x1024 1 × IVec S1024x8192 1 × IVec S512 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 32768#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Pre_finite_and_named_ReferenceIdeal.lean ====
abbrev S512x1024 : Shape := ⟨2, ![512, 1024]⟩
abbrev S1024x32768 : Shape := ⟨2, ![1024, 32768]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)
  bcast_S_S512 : S_.BroadcastsInDim S512 (![] : Fin 0 → Fin S512.rank)

variable [Facts]

def fn {F : FTy → Type} [FloatOps F] (main_arg0 : FVec F S512x1024 .bf16) (main_arg1 : FVec F S1024x32768 .bf16) (main_arg2 : IVec S512 32) : IVec S512x1024 1 × IVec S1024x32768 1 × IVec S512 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x32768 .bf16 := Host.absf main_arg1
  let main_cst_0 : FVec F S_ .bf16 := constant S_ .bf16 0x7F80#16
  let main_v4 : FVec F S1024x32768 .bf16 := broadcastInDim S1024x32768 ![] bcast_S_S1024x32768 main_cst_0
  let main_v5 : IVec S1024x32768 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 32768#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Kernel.lean ====
abbrev S512x1024 : Shape := ⟨2, ![512, 1024]⟩
abbrev S1024x8192 : Shape := ⟨2, ![1024, 8192]⟩
abbrev S512 : Shape := ⟨1, ![512]⟩
abbrev S1024x1024 : Shape := ⟨2, ![1024, 1024]⟩
abbrev S8x512 : Shape := ⟨2, ![8, 512]⟩
abbrev S4x8x512 : Shape := ⟨3, ![4, 8, 512]⟩
abbrev S4 : Shape := ⟨1, ![4]⟩
abbrev S_ : Shape := ⟨0, ![]⟩
abbrev S1024x512 : Shape := ⟨2, ![1024, 512]⟩
abbrev S1x512 : Shape := ⟨2, ![1, 512]⟩
abbrev S1x1x512 : Shape := ⟨3, ![1, 1, 512]⟩
abbrev S1 : Shape := ⟨1, ![1]⟩
abbrev S1x8x512 : Shape := ⟨3, ![1, 8, 512]⟩
abbrev S4x1x512 : Shape := ⟨3, ![4, 1, 512]⟩
abbrev S4x512 : Shape := ⟨2, ![4, 512]⟩

abbrev nBuf : Space → Nat
  | .hbm => 4
  | .vmem => 8
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512, .i32⟩
  | .hbm, ⟨3, _⟩ => ⟨S512, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512, .i32⟩
  | .local _ .vmem, ⟨4, _⟩ => ⟨S512, .f32⟩
  | .local _ .vmem, ⟨5, _⟩ => ⟨S8x512, .f32⟩
  | .local _ .vmem, ⟨6, _⟩ => ⟨S8x512, .f32⟩
  | .local _ .vmem, ⟨7, _⟩ => ⟨S4x8x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_2 : BitVec 32 := 0#32
  let v11 : BitVec 1 := Scalar.cmpi .ne v10 c0_i32_2
  v11

def k0_dev1 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v57 : BitVec 32 := Scalar.muli v2 c8_i32_21
  let v58 : BitVec 32 := Scalar.addi c0_i32_22 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v59 : BitVec 32 := Scalar.muli v5 c4_i32_23
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v46 : BitVec 32 := Scalar.addi v8 c1_i32_13
  let c4_i32_14 : BitVec 32 := 4#32
  let c0_i32_15 : BitVec 32 := 0#32
  let v47 : BitVec 1 := Scalar.cmpi .eq c4_i32_14 c0_i32_15
  let c1_i32_16 : BitVec 32 := 1#32
  let v48 : BitVec 32 := Scalar.select v47 c1_i32_16 c4_i32_14
  let v49 : BitVec 32 := Scalar.remsi v46 v48
  let c0_i32_18 : BitVec 32 := 0#32
  let v51 : BitVec 1 := Scalar.cmpi .slt v49 c0_i32_18
  let c0_i32_19 : BitVec 32 := 0#32
  let v52 : BitVec 1 := Scalar.cmpi .slt v48 c0_i32_19
  let v53 : BitVec 1 := Scalar.xori v51 v52
  let c0_i32_17 : BitVec 32 := 0#32
  let v50 : BitVec 1 := Scalar.cmpi .ne v49 c0_i32_17
  let v54 : BitVec 1 := Scalar.andi v53 v50
  let v55 : BitVec 32 := Scalar.addi v49 v48
  let v56 : BitVec 32 := Scalar.select v54 v55 v49
  let c1_i32_24 : BitVec 32 := 1#32
  let v61 : BitVec 32 := Scalar.muli v56 c1_i32_24
  let v62 : BitVec 32 := Scalar.addi v60 v61
  v62.toNat
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v74 : BitVec 32 := Scalar.muli v2 c8_i32_33
  let v75 : BitVec 32 := Scalar.addi c0_i32_34 v74
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v76 : BitVec 32 := Scalar.muli v5 c4_i32_35
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_25 : BitVec 32 := 2#32
  let v63 : BitVec 32 := Scalar.addi v8 c2_i32_25
  let c4_i32_26 : BitVec 32 := 4#32
  let c0_i32_27 : BitVec 32 := 0#32
  let v64 : BitVec 1 := Scalar.cmpi .eq c4_i32_26 c0_i32_27
  let c1_i32_28 : BitVec 32 := 1#32
  let v65 : BitVec 32 := Scalar.select v64 c1_i32_28 c4_i32_26
  let v66 : BitVec 32 := Scalar.remsi v63 v65
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let c0_i32_29 : BitVec 32 := 0#32
  let v67 : BitVec 1 := Scalar.cmpi .ne v66 c0_i32_29
  let v71 : BitVec 1 := Scalar.andi v70 v67
  let v72 : BitVec 32 := Scalar.addi v66 v65
  let v73 : BitVec 32 := Scalar.select v71 v72 v66
  let c1_i32_36 : BitVec 32 := 1#32
  let v78 : BitVec 32 := Scalar.muli v73 c1_i32_36
  let v79 : BitVec 32 := Scalar.addi v77 v78
  v79.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v91 : BitVec 32 := Scalar.muli v2 c8_i32_44
  let v92 : BitVec 32 := Scalar.addi c0_i32_45 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_46 : BitVec 32 := 4#32
  let v93 : BitVec 32 := Scalar.muli v5 c4_i32_46
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v80 : BitVec 32 := Scalar.addi v8 c3_i32
  let c4_i32_37 : BitVec 32 := 4#32
  let c0_i32_38 : BitVec 32 := 0#32
  let v81 : BitVec 1 := Scalar.cmpi .eq c4_i32_37 c0_i32_38
  let c1_i32_39 : BitVec 32 := 1#32
  let v82 : BitVec 32 := Scalar.select v81 c1_i32_39 c4_i32_37
  let v83 : BitVec 32 := Scalar.remsi v80 v82
  let c0_i32_41 : BitVec 32 := 0#32
  let v85 : BitVec 1 := Scalar.cmpi .slt v83 c0_i32_41
  let c0_i32_42 : BitVec 32 := 0#32
  let v86 : BitVec 1 := Scalar.cmpi .slt v82 c0_i32_42
  let v87 : BitVec 1 := Scalar.xori v85 v86
  let c0_i32_40 : BitVec 32 := 0#32
  let v84 : BitVec 1 := Scalar.cmpi .ne v83 c0_i32_40
  let v88 : BitVec 1 := Scalar.andi v87 v84
  let v89 : BitVec 32 := Scalar.addi v83 v82
  let v90 : BitVec 32 := Scalar.select v88 v89 v83
  let c1_i32_47 : BitVec 32 := 1#32
  let v95 : BitVec 32 := Scalar.muli v90 c1_i32_47
  let v96 : BitVec 32 := Scalar.addi v94 v95
  v96.toNat
def k0_off1 (i : grid0.Coords) : Fin 2 → Nat :=
  let arg0 : BitVec 32 := BitVec.ofNat 32 (i 0).val
  let v34 : Index := Scalar.indexCast arg0
  let c0_10 : Index := 0#32
  ![v34.toNat, 0]
def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_12 : BitVec 32 := 0#32
  let v44 : BitVec 1 := Scalar.cmpi .ne v43 c0_i32_12
  v44

def k0_dev4 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v67 : BitVec 32 := Scalar.muli v2 c8_i32_35
  let v68 : BitVec 32 := Scalar.addi c0_i32_36 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v69 : BitVec 32 := Scalar.muli v5 c4_i32_37
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v56 : BitVec 32 := Scalar.addi v8 c1_i32_24
  let c4_i32_25 : BitVec 32 := 4#32
  let c0_i32_26 : BitVec 32 := 0#32
  let v57 : BitVec 1 := Scalar.cmpi .eq c4_i32_25 c0_i32_26
  let c1_i32_27 : BitVec 32 := 1#32
  let v58 : BitVec 32 := Scalar.select v57 c1_i32_27 c4_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c1_i32_38 : BitVec 32 := 1#32
  let v71 : BitVec 32 := Scalar.muli v66 c1_i32_38
  let v72 : BitVec 32 := Scalar.addi v70 v71
  v72.toNat
def k0_dev5 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v92 : BitVec 32 := Scalar.muli v2 c8_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v94 : BitVec 32 := Scalar.muli v5 c4_i32_56
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_43 : BitVec 32 := 2#32
  let v81 : BitVec 32 := Scalar.addi v8 c2_i32_43
  let c4_i32_44 : BitVec 32 := 4#32
  let c0_i32_45 : BitVec 32 := 0#32
  let v82 : BitVec 1 := Scalar.cmpi .eq c4_i32_44 c0_i32_45
  let c1_i32_46 : BitVec 32 := 1#32
  let v83 : BitVec 32 := Scalar.select v82 c1_i32_46 c4_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c1_i32_57 : BitVec 32 := 1#32
  let v96 : BitVec 32 := Scalar.muli v91 c1_i32_57
  let v97 : BitVec 32 := Scalar.addi v95 v96
  v97.toNat
def k0_dev6 (d0 : Dev nD) : Nat :=
  let c0_i32_74 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_73 : BitVec 32 := 8#32
  let v117 : BitVec 32 := Scalar.muli v2 c8_i32_73
  let v118 : BitVec 32 := Scalar.addi c0_i32_74 v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v119 : BitVec 32 := Scalar.muli v5 c4_i32_75
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_62 : BitVec 32 := 3#32
  let v106 : BitVec 32 := Scalar.addi v8 c3_i32_62
  let c4_i32_63 : BitVec 32 := 4#32
  let c0_i32_64 : BitVec 32 := 0#32
  let v107 : BitVec 1 := Scalar.cmpi .eq c4_i32_63 c0_i32_64
  let c1_i32_65 : BitVec 32 := 1#32
  let v108 : BitVec 32 := Scalar.select v107 c1_i32_65 c4_i32_63
  let v109 : BitVec 32 := Scalar.remsi v106 v108
  let c0_i32_67 : BitVec 32 := 0#32
  let v111 : BitVec 1 := Scalar.cmpi .slt v109 c0_i32_67
  let c0_i32_68 : BitVec 32 := 0#32
  let v112 : BitVec 1 := Scalar.cmpi .slt v108 c0_i32_68
  let v113 : BitVec 1 := Scalar.xori v111 v112
  let c0_i32_66 : BitVec 32 := 0#32
  let v110 : BitVec 1 := Scalar.cmpi .ne v109 c0_i32_66
  let v114 : BitVec 1 := Scalar.andi v113 v110
  let v115 : BitVec 32 := Scalar.addi v109 v108
  let v116 : BitVec 32 := Scalar.select v114 v115 v109
  let c1_i32_76 : BitVec 32 := 1#32
  let v121 : BitVec 32 := Scalar.muli v116 c1_i32_76
  let v122 : BitVec 32 := Scalar.addi v120 v121
  v122.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S512x1024 : Shape := ⟨2, ![512, 1024]⟩
abbrev S1024x32768 : Shape := ⟨2, ![1024, 32768]⟩
abbrev S512 : Shape := ⟨1, ![512]⟩
abbrev S512x32768 : Shape := ⟨2, ![512, 32768]⟩
abbrev S_ : Shape := ⟨0, ![]⟩
abbrev S512x1 : Shape := ⟨2, ![512, 1]⟩
abbrev S512x2 : Shape := ⟨2, ![512, 2]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x32768, .bf16⟩
  | .hbm, ⟨2, _⟩ => ⟨S512, .i32⟩
  | .hbm, ⟨3, _⟩ => ⟨S512x1024, .f32⟩
  | .hbm, ⟨4, _⟩ => ⟨S1024x32768, .f32⟩
  | .hbm, ⟨5, _⟩ => ⟨S512x32768, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x32768, .f32⟩
  | .hbm, ⟨10, _⟩ => ⟨S512x32768, .f32⟩
  | .hbm, ⟨11, _⟩ => ⟨S512x32768, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512, .f32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S512x1, .i32⟩
  | .hbm, ⟨35, _⟩ => ⟨S512x2, .i32⟩
  | .hbm, ⟨36, _⟩ => ⟨S512, .f32⟩
  | .hbm, ⟨37, _⟩ => ⟨S512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.RingKernelIdeal.lean ====
/-
The exchange of `KernelIdeal` as a protocol: who signals whom, who sends which slot to whom, and what each message carries.

Sixteen devices form four rings of four (the vocabulary axis). At its first grid point a device signals the barrier
semaphore of its three ring peers; at the last point it waits for three units, copies slot 0 of its communication buffer
into slot `k + 1` of the peer `k + 1` places ahead, for `k = 0, 1, 2`, and waits for its own three sends and for the
three copies that come in. Each signal hands its receiver the slot of the signaller that the receiver will fill.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the pipeline's rounds and the exchange's, the latter with three duty names -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The rings -/

set_option backward.proofsInPublic true in
/-- The device `k + 1` places after `c` on its ring. -/
def sh (k : Fin 3) (c : Dev nD) : Dev nD :=
  ⟨4 * (c.val / 4) + (c.val % 4 + k.val + 1) % 4, by have h : c.val < 16 := c.isLt; show _ < 16; omega⟩

/-- The shift back. -/
def op (k : Fin 3) : Fin 3 := k.rev

theorem sh_op_sh (k : Fin 3) (c : Dev nD) : sh (op k) (sh k c) = c := by revert k c; decide
theorem op_op (k : Fin 3) : op (op k) = k := Fin.rev_rev k
theorem sh_sh_op (k : Fin 3) (c : Dev nD) : sh k (sh (op k) c) = c := by revert k c; decide

def around (k : Fin 3) : Dev nD ≃ Dev nD := ⟨sh k, sh (op k), sh_op_sh k, sh_sh_op k⟩

theorem sh_eq_iff (k : Fin 3) (c d : Dev nD) : Iff (sh k d = c) (d = sh (op k) c) :=
  ⟨fun h => by rw [← h, sh_op_sh], fun h => by rw [h, sh_sh_op]⟩

theorem dev1_sh (c : Dev nD) (h) : (⟨k0_dev1 c, h⟩ : Dev nD) = sh 0 c := by revert c; decide
theorem dev2_sh (c : Dev nD) (h) : (⟨k0_dev2 c, h⟩ : Dev nD) = sh 1 c := by revert c; decide
theorem dev3_sh (c : Dev nD) (h) : (⟨k0_dev3 c, h⟩ : Dev nD) = sh 2 c := by revert c; decide
theorem dev4_sh (c : Dev nD) (h) : (⟨k0_dev4 c, h⟩ : Dev nD) = sh 0 c := by revert c; decide
theorem dev5_sh (c : Dev nD) (h) : (⟨k0_dev5 c, h⟩ : Dev nD) = sh 1 c := by revert c; decide
theorem dev6_sh (c : Dev nD) (h) : (⟨k0_dev6 c, h⟩ : Dev nD) = sh 2 c := by revert c; decide

/-! ## Slots of the communication buffer -/

theorem slot_inb (k : Fin 4) : ∀ a, (![k.val, 0, 0] : Fin 3 → Nat) a + S1x8x512.size a ≤ S4x8x512.size a := by
  revert k; decide

abbrev slotR (k : Fin 4) : Rect S4x8x512 := Rect.unit (s := S4x8x512) ![k.val, 0, 0] S1x8x512.size (slot_inb k)

/-- Slot `k` of the communication buffer, as the transfers name it. -/
abbrev slotM (k : Fin 4) : Memref sig .tc .vmem S8x512 .f32 :=
  ((Memref.whole cc0_scratch2).slice (slotR k) (fun _ => rfl)).squeeze S8x512 squeezes_S1x8x512_S8x512

theorem slot_set (k : Fin 4) : (slotM k).view.set = (slotR k).set := by
  show (((View.whole cc0_scratch2).slice (slotR k)).reshape S8x512 _).set = _
  rw [View.set_reshape, View.set_slice_whole]

theorem mem_slot (k : Fin 4) (j : S4x8x512.Idx) : Iff (j ∈ (slotM k).view.set) ((j 0).val = k.val) := by
  rw [slot_set, Rect.mem_set_unit]
  constructor
  · intro h
    have h0 := h 0
    have e1 : (![k.val, 0, 0] : Fin 3 → Nat) 0 = k.val := rfl
    have e2 : S1x8x512.size 0 = 1 := rfl
    rw [e1, e2] at h0; omega
  · intro h a
    have ha := (j a).isLt
    match a with
    | ⟨0, _⟩ =>
      show k.val ≤ (j 0).val ∧ (j 0).val < k.val + 1
      omega
    | ⟨1, _⟩ => exact ⟨Nat.zero_le _, by rw [show (![k.val, 0, 0] : Fin 3 → Nat) ⟨1, by omega⟩ = 0 from rfl, Nat.zero_add]; exact ha⟩
    | ⟨2, _⟩ => exact ⟨Nat.zero_le _, by rw [show (![k.val, 0, 0] : Fin 3 → Nat) ⟨2, by omega⟩ = 0 from rfl, Nat.zero_add]; exact ha⟩

theorem slots_disjoint (k k' : Fin 4) (h : k ≠ k') : Disjoint (slotM k).view.set (slotM k').view.set :=
  Finset.disjoint_left.mpr fun j hj hj' => h (Fin.ext (((mem_slot k j).mp hj).symm.trans ((mem_slot k' j).mp hj')))

theorem slots_cover : Finset.univ.biUnion (fun k : Fin 4 => (slotM k).view.set) = (Finset.univ : Finset S4x8x512.Idx) :=
  Finset.eq_univ_iff_forall.mpr fun j => Finset.mem_biUnion.mpr ⟨⟨(j 0).val, (j 0).isLt⟩, Finset.mem_univ _, (mem_slot _ j).mpr rfl⟩

/-- The credit of one slot's transfer. -/
abbrev N : ℕ := (slotM 0).view.dmaCredit
theorem N_pos : 0 < N := View.dmaCredit_pos _ (by decide)
theorem credit_slot (k : Fin 4) : (slotM k).view.dmaCredit = N := rfl

/-! ## Semaphores -/

theorem sem_inb (k : Fin 3) : ∀ a, (![k.val + 1] : Fin 1 → Nat) a + S1.size a ≤ S4.size a := by revert k; decide

/-- The runtime's barrier semaphore; the semaphores of the `k`-th send and of the `k`-th receive. -/
abbrev barS : Sem sig := (SemArray.scalar (sig.barrier 0 rfl) : Sems sig S_).sem
abbrev sendQ (k : Fin 3) : DmaSem sig := ((cc0_scratch3.slice (Rect.unit (s := S4) ![k.val + 1] S1.size (sem_inb k))).squeeze S_ squeezes_S1_S_).sem
abbrev recvQ (k : Fin 3) : DmaSem sig := ((cc0_scratch4.slice (Rect.unit (s := S4) ![k.val + 1] S1.size (sem_inb k))).squeeze S_ squeezes_S1_S_).sem

/-- The two semaphores of the arrays that the kernel never uses. -/
abbrev idleQ₁ : DmaSem sig := (⟨5, by decide⟩ : Fin 13)
abbrev idleQ₂ : DmaSem sig := (⟨9, by decide⟩ : Fin 13)

theorem sendQ_val (k : Fin 3) : (sendQ k).val = 6 + k.val := by revert k; decide
theorem recvQ_val (k : Fin 3) : (recvQ k).val = 10 + k.val := by revert k; decide

/-- The seven semaphores of the exchange: barrier, three sends, three receives. -/
def csem (j : Fin 7) : SemLoc sig :=
  match j with
  | 0 => .reg barS
  | 1 => .dma (sendQ 0) | 2 => .dma (sendQ 1) | 3 => .dma (sendQ 2)
  | 4 => .dma (recvQ 0) | 5 => .dma (recvQ 1) | 6 => .dma (recvQ 2)

/-- Which of the seven a semaphore is. -/
def tag (s : SemLoc sig) : Option (Fin 7) :=
  match s with
  | .reg q => if q = barS then some 0 else none
  | .dma q => if q.val = 6 then some 1 else if q.val = 7 then some 2 else if q.val = 8 then some 3
      else if q.val = 10 then some 4 else if q.val = 11 then some 5 else if q.val = 12 then some 6 else none

theorem tag_csem (j : Fin 7) : tag (csem j) = some j := by revert j; decide

theorem csem_injective : Function.Injective csem := fun a b h => Option.some.inj (by rw [← tag_csem a, ← tag_csem b, h])

abbrev sj (k : Fin 3) : Fin 7 := ⟨k.val + 1, by omega⟩
abbrev rj (k : Fin 3) : Fin 7 := ⟨k.val + 4, by omega⟩

abbrev kcell (cj : Dev nD × Fin 7) : GSem nD τ sig := ((cj.1 : Thread nD τ), csem cj.2)
abbrev barCell (c : Dev nD) : GSem nD τ sig := ((c : Thread nD τ), .reg barS)
abbrev sendCell (c : Dev nD) (k : Fin 3) : GSem nD τ sig := ((c : Thread nD τ), .dma (sendQ k))
abbrev recvCell (c : Dev nD) (k : Fin 3) : GSem nD τ sig := ((c : Thread nD τ), .dma (recvQ k))

theorem kcell_bar (c : Dev nD) : kcell (c, 0) = barCell c := rfl
theorem csem_send (k : Fin 3) : csem (sj k) = .dma (sendQ k) := by fin_cases k <;> rfl
theorem csem_recv (k : Fin 3) : csem (rj k) = .dma (recvQ k) := by fin_cases k <;> rfl
theorem kcell_send (c : Dev nD) (k : Fin 3) : kcell (c, sj k) = sendCell c k := Prod.ext rfl (csem_send k)
theorem kcell_recv (c : Dev nD) (k : Fin 3) : kcell (c, rj k) = recvCell c k := Prod.ext rfl (csem_recv k)

theorem kcell_injective : Function.Injective (kcell : Dev nD × Fin 7 → GSem nD τ sig) := by
  rintro ⟨c, j⟩ ⟨c', j'⟩ h
  have h1 : c = c' := congrArg (fun g : GSem nD τ sig => g.1.1) h
  have h2 : j = j' := csem_injective (congrArg Prod.snd h)
  rw [h1, h2]

/-! ## Contents -/

/-- Device `c`'s blocks at point `t`: activations, weights, labels. -/
def xB (c : Dev nD) (t : Fin cfg0.N) : Vec F S512x1024 .bf16 := iblk m c 0 t
def wB (c : Dev nD) (t : Fin cfg0.N) : Vec F S1024x1024 .bf16 := iblk m c 1 t
def lB (c : Dev nD) (t : Fin cfg0.N) : Vec F S512 .i32 := iblk m c 2 t

/-- The two rows that point `t` computes. -/
def sRow (c : Dev nD) (t : Fin cfg0.N) : FVec F S512 .f32 := k0_pay9 (xB m c t) (wB m c t)
def lRow (c : Dev nD) (t : Fin cfg0.N) : FVec F S512 .f32 := k0_pay10 (grid0.coords t) c (xB m c t) (wB m c t) (lB m c t)

set_option backward.proofsInPublic true in
/-- Column `r` of a one-row table, and of a one-row table with one more leading axis. -/
def ix2 (r : Fin 512) : S1x512.Idx := fun | ⟨0, _⟩ => (0 : Fin 1) | ⟨1, _⟩ => r | ⟨_ + 2, h⟩ => absurd h (by simp [S1x512])
set_option backward.proofsInPublic true in
def ix3 (r : Fin 512) : S1x1x512.Idx :=
  fun | ⟨0, _⟩ => (0 : Fin 1) | ⟨1, _⟩ => (0 : Fin 1) | ⟨2, _⟩ => r | ⟨_ + 3, h⟩ => absurd h (by simp [S1x1x512])

set_option backward.proofsInPublic true in
/-- The grid point that writes row `j 0`. -/
def ptOf (j : S8x512.Idx) : Fin cfg0.N := ⟨(j 0).val, by rw [show cfg0.N = 8 from N_0]; exact (j 0).isLt⟩

/-- The two tables of partial sums after the last point. -/
def sTab (c : Dev nD) : Vec F S8x512 .f32 := fun j => k0_pay1 (sRow m c (ptOf j)) (ix2 (j 1))
def lTab (c : Dev nD) : Vec F S8x512 .f32 := fun j => k0_pay2 (lRow m c (ptOf j)) (ix2 (j 1))

/-- Device `c`'s two sums over its own columns. -/
def sLoc (c : Dev nD) : FVec F S1x1x512 .f32 := k0_pay4 (sTab m c)
def lLoc (c : Dev nD) : FVec F S1x1x512 .f32 := k0_pay5 (lTab m c)

/-- Whose sums end in slot `k` of device `c`. -/
def from_ (k : Fin 4) (c : Dev nD) : Dev nD := Fin.cases c (fun k => sh (op k) c) k

/-- What the kernel reads back from the four slots, and its result on device `c`. -/
def gS (c : Dev nD) : Vec F S4x1x512 .f32 := fun y => sLoc m (from_ (y 0) c) (ix3 (y 2))
def gL (c : Dev nD) : Vec F S4x1x512 .f32 := fun y => lLoc m (from_ (y 0) c) (ix3 (y 2))
def outAt (c : Dev nD) : FVec F S512 .f32 := k0_pay3 (k0_pay6 (gS m c)) (k0_pay7 (gL m c))

/-- Slot `k` of contents `f` holds `a` in its row 0 and `b` in its row 1. -/
def SlotHas (k : Fin 4) (f : S4x8x512.Idx → Elt F .f32) (a b : FVec F S1x1x512 .f32) : Prop :=
  ∀ j : S4x8x512.Idx, (j 0).val = k.val → ((j 1).val = 0 → f j = a (ix3 (j 2))) ∧ ((j 1).val = 1 → f j = b (ix3 (j 2)))

/-- Slot `k` of device `c`'s communication buffer, held at share `q` with contents `f`. -/
def slotPts (k : Fin 4) (c : Dev nD) (q : PosShare TreeShare) (f : S4x8x512.Idx → Elt F .f32) : sProp 𝕄 :=
  (slotM k).view.loc (c : Thread nD τ) ↦[(slotM k).view.set]{q} f

omit [FloatOps F] in
instance slotPts_storable (k : Fin 4) (c : Dev nD) (q) (f) : BI.Storable (upEmb : UEmb _ 𝕄) (slotPts (F := F) k c q f) := by
  unfold slotPts; infer_instance

/-! ## The schedule -/

/-- What the signal of the device `k + 1` places ahead hands `c`: that device's slot `k + 1`. -/
def barPay (c : Dev nD) (k : Fin 3) : sProp 𝕄 := iprop(∃ f, slotPts (F := F) k.succ (sh k c) fullShare f)
/-- What the `k`-th send of `c` gives back: its share of slot 0, unchanged. -/
def sendPay (c : Dev nD) (k : Fin 3) : sProp 𝕄 :=
  iprop(∃ f, ⌜SlotHas 0 f (sLoc m c) (lLoc m c)⌝ ∗ slotPts 0 c (Ring.shares3 fullShare k) f)
/-- What the `k`-th receive of `c` brings: slot `k + 1` with the sums of the device it came from. -/
def recvPay (c : Dev nD) (k : Fin 3) : sProp 𝕄 :=
  iprop(∃ f, ⌜SlotHas k.succ f (sLoc m (sh (op k) c)) (lLoc m (sh (op k) c))⌝ ∗ slotPts k.succ c fullShare f)

instance barPay_storable (c : Dev nD) (k : Fin 3) : BI.Storable (upEmb : UEmb _ 𝕄) (barPay (F := F) c k) := by unfold barPay; infer_instance
instance sendPay_storable (c : Dev nD) (k : Fin 3) : BI.Storable (upEmb : UEmb _ 𝕄) (sendPay m c k) := by unfold sendPay; infer_instance
instance recvPay_storable (c : Dev nD) (k : Fin 3) : BI.Storable (upEmb : UEmb _ 𝕄) (recvPay m c k) := by unfold recvPay; infer_instance

def pay (c : Dev nD) (j : Fin 7) (d : Fin 3) : sProp 𝕄 :=
  match j with
  | 0 => barPay c d
  | 1 => sendPay m c 0 | 2 => sendPay m c 1 | 3 => sendPay m c 2
  | 4 => recvPay m c 0 | 5 => recvPay m c 1 | 6 => recvPay m c 2

instance pay_storable (c : Dev nD) (j : Fin 7) (d : Fin 3) : BI.Storable (upEmb : UEmb _ 𝕄) (pay m c j d) := by
  unfold pay; split <;> infer_instance

def dset (j : Fin 7) : Finset (Fin 3) := if j = 0 then Finset.univ else {0}
def amt (j : Fin 7) : ℕ := if j = 0 then 1 else N

/-- One round: a barrier cell has three duties of one unit, one for each peer; a send or receive cell has one duty, the slot's credit. -/
def sched : Rounds.Schedule (GSem nD τ sig) (Fin 3) 𝕄 where
  duties g r := if r = 0 ∧ g.1.2 = .tc then (tag g.2).elim ∅ dset else ∅
  unitless _ := False
  amount g _ _ := (tag g.2).elim 1 amt
  payload g _ d := (tag g.2).elim iprop(emp) fun j => pay m g.1.1 j d
  amount_pos g _ _ _ := by
    cases tag g.2 with
    | none => exact Nat.one_pos
    | some j => show 0 < amt j; unfold amt; split; exacts [Nat.one_pos, N_pos]

instance sched_storable (g : GSem nD τ sig) (r : ℕ) (d : Fin 3) : BI.Storable (upEmb : UEmb _ 𝕄) ((sched m).payload g r d) := by
  show BI.Storable upEmb ((tag g.2).elim iprop(emp) fun j => pay m g.1.1 j d)
  cases tag g.2 with
  | none => show BI.Storable upEmb iprop(emp); infer_instance
  | some j => show BI.Storable upEmb (pay m g.1.1 j d); infer_instance

section Sched
variable (c : Dev nD) (k d : Fin 3) (j : Fin 7)

theorem duties_cell : (sched m).duties (kcell (c, j)) 0 = dset j := by
  show (if ((0 : ℕ) = 0 ∧ (c : Thread nD τ).2 = .tc) then (tag (csem j)).elim ∅ dset else ∅) = _
  rw [if_pos ⟨rfl, rfl⟩, tag_csem]; rfl
theorem amount_cell (r : ℕ) : (sched m).amount (kcell (c, j)) r d = amt j := by
  show (tag (csem j)).elim 1 amt = _
  rw [tag_csem]; rfl
theorem payload_cell (r : ℕ) : (sched m).payload (kcell (c, j)) r d = pay m c j d := by
  show (tag (csem j)).elim iprop(emp) (fun j => pay m c j d) = _
  rw [tag_csem]; rfl
theorem duties_later (g : GSem nD τ sig) : ∀ r, 1 ≤ r → (sched m).duties g r = ∅ := fun r hr => by
  show (if (r = 0 ∧ g.1.2 = .tc) then _ else ∅) = _
  exact if_neg fun h => by omega

theorem duties_bar : (sched m).duties (barCell c) 0 = Finset.univ := duties_cell m c 0
theorem duties_send : (sched m).duties (sendCell c k) 0 = {0} := by
  rw [← kcell_send, duties_cell]; fin_cases k <;> rfl
theorem duties_recv : (sched m).duties (recvCell c k) 0 = {0} := by
  rw [← kcell_recv, duties_cell]; fin_cases k <;> rfl
theorem amount_bar : (sched m).amount (barCell c) 0 d = 1 := amount_cell m c d 0 0
theorem amount_send : (sched m).amount (sendCell c k) 0 d = N := by
  rw [← kcell_send, amount_cell]; fin_cases k <;> rfl
theorem amount_recv : (sched m).amount (recvCell c k) 0 d = N := by
  rw [← kcell_recv, amount_cell]; fin_cases k <;> rfl
theorem payload_bar : (sched m).payload (barCell c) 0 d = barPay c d := payload_cell m c d 0 0
theorem payload_send : (sched m).payload (sendCell c k) 0 d = sendPay m c k := by
  rw [← kcell_send, payload_cell]; fin_cases k <;> rfl
theorem payload_recv : (sched m).payload (recvCell c k) 0 d = recvPay m c k := by
  rw [← kcell_recv, payload_cell]; fin_cases k <;> rfl

theorem expect_bar : (sched m).expect (barCell c) 0 = 3 := by
  unfold Schedule.expect Schedule.amountOf
  rw [duties_bar, Finset.sum_congr rfl fun d _ => amount_bar m c d]; rfl
theorem expect_send : (sched m).expect (sendCell c k) 0 = N := by
  unfold Schedule.expect Schedule.amountOf; rw [duties_send, Finset.sum_singleton, amount_send]
theorem expect_recv : (sched m).expect (recvCell c k) 0 = N := by
  unfold Schedule.expect Schedule.amountOf; rw [duties_recv, Finset.sum_singleton, amount_recv]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem rest_bar : bigSep ((sched m).duties (barCell c) 0 \ ∅) (fun d => (sched m).payload (barCell c) 0 d)
    = iprop(barPay (F := F) c 0 ∗ barPay c 1 ∗ barPay c 2) := by
  rw [Finset.sdiff_empty, duties_bar, bigSep_three, payload_bar, payload_bar, payload_bar]
theorem rest_send : bigSep ((sched m).duties (sendCell c k) 0 \ ∅) (fun d => (sched m).payload (sendCell c k) 0 d) = sendPay m c k := by
  rw [Finset.sdiff_empty, duties_send, bigSep_singleton, payload_send]
theorem rest_recv : bigSep ((sched m).duties (recvCell c k) 0 \ ∅) (fun d => (sched m).payload (recvCell c k) 0 d) = recvPay m c k := by
  rw [Finset.sdiff_empty, duties_recv, bigSep_singleton, payload_recv]

end Sched

/-! ## What a device owes, and the levels -/

/-- The receive credits a device still owes its peers before its third, its second and its first send. -/
def O₁ (c : Dev nD) : CellTallies nD τ sig Unit := tallyAt (recvCell (sh 2 c) 2) () N
def O₂ (c : Dev nD) : CellTallies nD τ sig Unit := O₁ c + tallyAt (recvCell (sh 1 c) 1) () N
def O₃ (c : Dev nD) : CellTallies nD τ sig Unit := O₂ c + tallyAt (recvCell (sh 0 c) 0) () N
/-- Those and the barrier units it owes before its third, second and first signal. -/
def O₄ (c : Dev nD) : CellTallies nD τ sig Unit := O₃ c + tallyAt (barCell (sh 2 c)) () 1
def O₅ (c : Dev nD) : CellTallies nD τ sig Unit := O₄ c + tallyAt (barCell (sh 1 c)) () 1
def O₆ (c : Dev nD) : CellTallies nD τ sig Unit := O₅ c + tallyAt (barCell (sh 0 c)) () 1

def owedAt (c : Dev nD) (t : ℕ) : CellTallies nD τ sig Unit := if t = 0 then O₆ c else if t < 8 then O₃ c else 0

def L (g : GSem nD τ sig) : Finset Unit := if g.1.2 = .tc then {()} else ∅
def lvTag (j : Fin 7) : ℕ := if j = 0 then 1 else if j.val < 4 then 0 else 2
/-- Barrier cells at 1, receive cells at 2, everything else at 0. -/
def lv (g : GSem nD τ sig) (_ : Unit) : ℕ := (tag g.2).elim 0 lvTag

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_recv (c : Dev nD) (k : Fin 3) (u) : lv (recvCell c k) u = 2 := by
  rw [← kcell_recv]; show (tag (csem (rj k))).elim 0 lvTag = 2; rw [tag_csem]; fin_cases k <;> rfl

theorem tally_pos {g g' : GSem nD τ sig} {n : ℕ} {u : Unit} {O : CellTallies nD τ sig Unit}
    (h : 0 < (O + tallyAt g () n) g' u) : 0 < O g' u ∨ g' = g := by
  rw [Pi.add_apply, Finsupp.add_apply, tallyAt_apply] at h
  by_cases hg : g' = g
  · exact .inr hg
  · rw [if_neg fun h' => hg h'.1] at h; exact .inl h

theorem O₃_pos {c : Dev nD} {g : GSem nD τ sig} {u : Unit} (h : 0 < O₃ c g u) : ∃ k, g = recvCell (sh k c) k := by
  rcases tally_pos h with h | rfl
  · rcases tally_pos h with h | rfl
    · unfold O₁ at h; rw [← zero_add (tallyAt _ _ _)] at h
      rcases tally_pos h with h | rfl
      · exact absurd h (Nat.lt_irrefl 0)
      · exact ⟨2, rfl⟩
    · exact ⟨1, rfl⟩
  · exact ⟨0, rfl⟩

theorem O₆_pos {c : Dev nD} {g : GSem nD τ sig} {u : Unit} (h : 0 < O₆ c g u) :
    (∃ k, g = recvCell (sh k c) k) ∨ ∃ k, g = barCell (sh k c) := by
  rcases tally_pos h with h | rfl
  · rcases tally_pos h with h | rfl
    · rcases tally_pos h with h | rfl
      · exact .inl (O₃_pos h)
      · exact .inr ⟨2, rfl⟩
    · exact .inr ⟨1, rfl⟩
  · exact .inr ⟨0, rfl⟩

theorem owedAt_pos {c : Dev nD} {t : ℕ} {g : GSem nD τ sig} {u : Unit} (h : 0 < owedAt c t g u) :
    (∃ k, g = recvCell (sh k c) k) ∨ ∃ k, g = barCell (sh k c) := by
  unfold owedAt at h
  by_cases h0 : t = 0
  · rw [if_pos h0] at h; exact O₆_pos h
  · rw [if_neg h0] at h
    by_cases h8 : t < 8
    · rw [if_pos h8] at h; exact .inl (O₃_pos h)
    · rw [if_neg h8] at h; exact absurd h (Nat.lt_irrefl 0)

/-- A wait on a semaphore outside the exchange is allowed whatever a device owes. -/
theorem mayWait_stage (c : Dev nD) (q : DmaSem sig) (hq : tag (.dma q) = none) (t : ℕ) :
    (levAts L lv : sProp 𝕄) ⊢ MayWait (c : Thread nD τ) (.dma q) () (owedAt c t) :=
  MayOwe.of_cut (L := L) (lev := lv) 0 (fun p hp => by rw [Finset.mem_singleton.mp hp, L_tc]; exact Finset.mem_singleton_self _)
    (fun g u hg => by rcases owedAt_pos hg with ⟨k, rfl⟩ | ⟨k, rfl⟩ <;> exact Finset.mem_singleton_self _)
    (fun p hp => by rw [Finset.mem_singleton.mp hp]; show (tag (.dma q)).elim 0 lvTag ≤ 0; rw [hq]; exact le_refl _)
    (fun g u hg => by
      rcases owedAt_pos hg with ⟨k, rfl⟩ | ⟨k, rfl⟩
      · rw [lv_recv]; decide
      · rw [lv_bar]; decide)

/-- At its barrier wait a device owes receive credits only. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with ⟨k, rfl⟩; exact Finset.mem_singleton_self _)
    (fun p hp => by rw [Finset.mem_singleton.mp hp]; exact le_refl _)
    (fun g u hg => by rcases O₃_pos hg with ⟨k, rfl⟩; rw [lv_recv]; decide)

end Cert.RingKernelIdeal

end
-- ==== Proof.StepsKernelIdeal.lean ====
/-
The steps of `KernelIdeal`'s body on one device: the stretch that computes and stores the two rows of a grid point, the
stretch that fills slot 0 with the device's own sums, a copy of slot 0 to a ring peer, the wait for a copy to have left
and for a copy to have come in, and what the four slots read as together.
-/
module

public import proofs.«01_k».proof.Proof.RingKernelIdeal
public import Idealize.ShloMosaic.Lib.VecWindow

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Rows of a table -/

/-- Contents of a table whose rows before `t` are done. -/
def Good (T : Vec F S8x512 .f32) (t : ℕ) (f : S8x512.Idx → Elt F .f32) : Prop := ∀ j : S8x512.Idx, (j 0).val < t → f j = T j

omit [FloatOps F] in
theorem Good.full {T : Vec F S8x512 .f32} {f : S8x512.Idx → Elt F .f32} (h : Good T 8 f) : f = T := funext fun j => h j (j 0).isLt

theorem coords_val (t : Fin cfg0.N) : ((grid0.coords t) 0).val = t.val := by
  have h : ∀ t : Fin grid0.N, ((grid0.coords t) 0).val = t.val := by decide
  exact h t

abbrev rowR (i : grid0.Coords) : Rect S8x512 := Rect.unit (s := S8x512) (k0_off1 i) S1x512.size (k0_off1_inb i)

theorem rowR_emb (i : grid0.Coords) (y : S1x512.Idx) : (((rowR i).emb y) 0).val = (i 0).val ∧ ((rowR i).emb y) 1 = y 1 := by
  have hy : (y 0).val < 1 := (y 0).isLt
  constructor
  · rw [Rect.emb_apply]
    show k0_off1 i 0 + 1 * (y 0).val = _
    rw [k0_off1_eq]; show (i 0).val + 1 * (y 0).val = _; omega
  · apply Fin.ext
    rw [Rect.emb_apply]
    show k0_off1 i 1 + 1 * (y 1).val = _
    rw [k0_off1_eq]; show 0 + 1 * (y 1).val = _; omega

omit [FloatOps F] in
/-- Storing row `i` of a table reads back as that row, the others unchanged. -/
theorem read_write_row (M : Memref sig .tc .vmem S8x512 .f32) (i : grid0.Coords) (f : M.view.ty.Contents (Elt F)) (w : Vec F S1x512 .f32)
    (j : S8x512.Idx) :
    M.view.read (Elt F) ((M.access (rowR i)).write (Elt F) f w Finset.univ) j
      = if (j 0).val = (i 0).val then w (ix2 (j 1)) else M.view.read (Elt F) f j := by
  have hset : (M.access (rowR i)).setOn Finset.univ = M.view.setOn (rowR i).set := View.set_slice _ _
  by_cases h : (j 0).val = (i 0).val
  · rw [if_pos h]
    have he : (rowR i).emb (ix2 (j 1)) = j := funext fun a => by
      match a with
      | ⟨0, _⟩ => exact Fin.ext ((rowR_emb i _).1.trans h.symm)
      | ⟨1, _⟩ => exact (rowR_emb i _).2
    conv_lhs => rw [← he, View.read_apply]
    have hw := (M.access (rowR i)).write_emb_of_mem f w (Finset.mem_univ (ix2 (j 1)))
    rw [show M.view.emb ((rowR i).emb (ix2 (j 1))) = (M.access (rowR i)).emb (ix2 (j 1)) from rfl, hw]
    exact cast_cast _ _ _
  · rw [if_neg h, View.read_apply, View.read_apply, View.write_of_not_mem]
    rw [hset, View.mem_setOn]
    intro hj
    obtain ⟨y, hy⟩ := (rowR i).toLoadRect.exists_idx_of_mem hj
    exact h (by rw [← hy]; exact (rowR_emb i y).1)

/-- A table on device `c` with its rows before `t` done. -/
def tabPts (M : Memref sig .tc .vmem S8x512 .f32) (T : Vec F S8x512 .f32) (t : ℕ) (c : Dev nD) : sProp 𝕄 :=
  iprop(∃ f : Buf (Elt F) (M.view.loc (c : Thread nD τ)), ⌜Good T t (M.view.read (Elt F) f)⌝ ∗ M.view.loc (c : Thread nD τ) ↦[M.view.set]{fullShare} f)

theorem good_row_s (M : Memref sig .tc .vmem S8x512 .f32) (c : Dev nD) (t : Fin cfg0.N) (f : M.view.ty.Contents (Elt F))
    (h : Good (sTab m c) t.val (M.view.read (Elt F) f)) :
    Good (sTab m c) (t.val + 1) (M.view.read (Elt F) ((M.access (rowR (grid0.coords t))).write (Elt F) f (k0_pay1 (sRow m c t)) Finset.univ)) := by
  intro j hj
  rw [read_write_row, coords_val]
  by_cases he : (j 0).val = t.val
  · rw [if_pos he]; show _ = k0_pay1 (sRow m c (ptOf j)) (ix2 (j 1)); rw [show ptOf j = t from Fin.ext he]
  · rw [if_neg he]; exact h j (by omega)

theorem good_row_l (M : Memref sig .tc .vmem S8x512 .f32) (c : Dev nD) (t : Fin cfg0.N) (f : M.view.ty.Contents (Elt F))
    (h : Good (lTab m c) t.val (M.view.read (Elt F) f)) :
    Good (lTab m c) (t.val + 1) (M.view.read (Elt F) ((M.access (rowR (grid0.coords t))).write (Elt F) f (k0_pay2 (lRow m c t)) Finset.univ)) := by
  intro j hj
  rw [read_write_row, coords_val]
  by_cases he : (j 0).val = t.val
  · rw [if_pos he]; show _ = k0_pay2 (lRow m c (ptOf j)) (ix2 (j 1)); rw [show ptOf j = t from Fin.ext he]
  · rw [if_neg he]; exact h j (by omega)

theorem row_sub (M : Memref sig .tc .vmem S8x512 .f32) (i : grid0.Coords) : (M.access (rowR i)).setOn Finset.univ ⊆ M.view.set := by
  rw [show (M.access (rowR i)).setOn Finset.univ = M.view.setOn (rowR i).set from View.set_slice _ _]
  exact View.setOn_subset_set _ _

/-- The loads of a point's three blocks, and the store of its two rows. -/
theorem wp_rows (c : Dev nD) (t : Fin cfg0.N) {M1 : Memref sig .tc .vmem S512x1024 .bf16} {M2 : Memref sig .tc .vmem S1024x1024 .bf16}
    {M3 : Memref sig .tc .vmem S512 .i32} {M5 M6 : Memref sig .tc .vmem S8x512 .f32} {α : Type} {Q : α → sProp 𝕄}
    {k : Prog (TpuEff nD τ sig (Elt F) Λ₀ .tc) α} :
    iprop(owns (c : Thread nD τ) M1 fullShare (xB m c t) ∗ owns (c : Thread nD τ) M2 fullShare (wB m c t) ∗ owns (c : Thread nD τ) M3 fullShare (lB m c t)
        ∗ tabPts M5 (sTab m c) t.val c ∗ tabPts M6 (lTab m c) t.val c)
      ⊢ iprop(((owns (c : Thread nD τ) M1 fullShare (xB m c t) ∗ owns (c : Thread nD τ) M2 fullShare (wB m c t) ∗ owns (c : Thread nD τ) M3 fullShare (lB m c t)
            ∗ tabPts M5 (sTab m c) (t.val + 1) c ∗ tabPts M6 (lTab m c) (t.val + 1) c)
            -∗ wp frame (wpE (defs₀ (F := F)) 𝒱₀ (c : Thread nD τ) none) Set.univ k Q)
          -∗ wp frame (wpE (defs₀ (F := F)) 𝒱₀ (c : Thread nD τ) none) Set.univ
            (.op (.load M1 (Rect.unit (s := S512x1024) ![0, 0] S512x1024.size inb_S512x1024_S512x1024_0_0).toLoadRect (View.loadsAt_vmem h_S512x1024)) fun v12 =>
             .op (.load M2 (Rect.unit (s := S1024x1024) ![0, 0] S1024x1024.size inb_S1024x1024_S1024x1024_0_0).toLoadRect (View.loadsAt_vmem h_S1024x1024)) fun v14 =>
             .op (.load M3 (Rect.unit (s := S512) ![0] S512.size inb_S512_S512_0).toLoadRect (View.loadsAt_vmem h_S512)) fun v19 =>
             .op (.load M5 (rowR (grid0.coords t)).toLoadRect (View.loadsAt_vmem h_S1x512)) fun _ =>
             .op (.store M5 (rowR (grid0.coords t)) (k0_pay1 (k0_pay9 v12 v14)) Finset.univ (View.stores_vmem_bits_univ h_S1x512 rfl) (.inl rfl)) fun _ =>
             .op (.load M6 (rowR (grid0.coords t)).toLoadRect (View.loadsAt_vmem h_S1x512)) fun _ =>
             .op (.store M6 (rowR (grid0.coords t)) (k0_pay2 (k0_pay10 (grid0.coords t) c v12 v14 v19)) Finset.univ (View.stores_vmem_bits_univ h_S1x512 rfl) (.inl rfl)) fun _ => k) Q) := by
  unfold owns tabPts
  iintro ⟨⟨%f1, %h1, H1⟩, ⟨%f2, %h2, H2⟩, ⟨%f3, %h3, H3⟩, ⟨%f5, %h5, H5⟩, ⟨%f6, %h6, H6⟩⟩ Hk
  iapply (wp_load 𝒱₀ (c : Thread nD τ) none Set.univ (m := M1) (View.setOn_subset_set _ _)) $$ H1; iintro H1
  rw [View.readAt_full, h1]
  iapply (wp_load 𝒱₀ (c : Thread nD τ) none Set.univ (m := M2) (View.setOn_subset_set _ _)) $$ H2; iintro H2
  rw [View.readAt_full, h2]
  iapply (wp_load 𝒱₀ (c : Thread nD τ) none Set.univ (m := M3) (View.setOn_subset_set _ _)) $$ H3; iintro H3
  rw [View.readAt_full, h3]
  iapply (wp_load 𝒱₀ (c : Thread nD τ) none Set.univ (m := M5) (View.setOn_subset_set _ _)) $$ H5; iintro H5
  iapply (wp_store 𝒱₀ (c : Thread nD τ) none Set.univ (m := M5) (r := rowR (grid0.coords t)) (Mk := Finset.univ) (row_sub M5 _)) $$ H5; iintro H5
  iapply (wp_load 𝒱₀ (c : Thread nD τ) none Set.univ (m := M6) (View.setOn_subset_set _ _)) $$ H6; iintro H6
  iapply (wp_store 𝒱₀ (c : Thread nD τ) none Set.univ (m := M6) (r := rowR (grid0.coords t)) (Mk := Finset.univ) (row_sub M6 _)) $$ H6; iintro H6
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H5]
  · iexists _; isplitr; · ipureintro; exact good_row_s m M5 c t f5 h5
    iexact H5
  · iexists _; isplitr; · ipureintro; exact good_row_l m M6 c t f6 h6
    iexact H6

/-! ## Lines of a slot -/

abbrev cM : Memref sig .tc .vmem S4x8x512 .f32 := Memref.whole cc0_scratch2
abbrev lineR0 : Rect S4x8x512 := Rect.unit (s := S4x8x512) ![0, 0, 0] S1x1x512.size inb_S4x8x512_S1x1x512_0_0_0
abbrev lineR1 : Rect S4x8x512 := Rect.unit (s := S4x8x512) ![0, 1, 0] S1x1x512.size inb_S4x8x512_S1x1x512_0_1_0

theorem line_emb {off : Fin 3 → ℕ} {inb} (p : ℕ) (ho : off = ![0, p, 0]) (y : S1x1x512.Idx) :
    (((Rect.unit (s := S4x8x512) off S1x1x512.size inb).emb y) 0).val = 0 ∧ (((Rect.unit (s := S4x8x512) off S1x1x512.size inb).emb y) 1).val = p
      ∧ ((Rect.unit (s := S4x8x512) off S1x1x512.size inb).emb y) 2 = y 2 := by
  subst ho
  have h0 : (y 0).val < 1 := (y 0).isLt
  have h1 : (y 1).val < 1 := (y 1).isLt
  refine ⟨?_, ?_, Fin.ext ?_⟩ <;> rw [Rect.emb_apply]
  · show 0 + 1 * (y 0).val = _; omega
  · show p + 1 * (y 1).val = _; omega
  · show 0 + 1 * (y 2).val = _; omega

omit [FloatOps F] in
/-- Storing line `p` of slot 0. -/
theorem write_line {off : Fin 3 → ℕ} {inb} (p : ℕ) (ho : off = ![0, p, 0]) (f : S4x8x512.Idx → Elt F .f32) (w : Vec F S1x1x512 .f32)
    (j : S4x8x512.Idx) (h0 : (j 0).val = 0) :
    ((cM.access (Rect.unit (s := S4x8x512) off S1x1x512.size inb) : View sig .tc _ _ _).write (Elt F) f w Finset.univ) j
      = if (j 1).val = p then w (ix3 (j 2)) else f j := by
  have e := line_emb (inb := inb) p ho
  by_cases h : (j 1).val = p
  · rw [if_pos h]
    have he : (Rect.unit (s := S4x8x512) off S1x1x512.size inb).emb (ix3 (j 2)) = j := funext fun a => by
      match a with
      | ⟨0, _⟩ => exact Fin.ext ((e _).1.trans h0.symm)
      | ⟨1, _⟩ => exact Fin.ext ((e _).2.1.trans h.symm)
      | ⟨2, _⟩ => exact (e _).2.2
    conv_lhs => rw [← he]
    exact (cM.access (Rect.unit (s := S4x8x512) off S1x1x512.size inb) : View sig .tc _ _ _).write_emb_of_mem f w (Finset.mem_univ (ix3 (j 2)))
  · rw [if_neg h]
    refine View.write_of_not_mem _ _ _ ?_
    rw [show (cM.access (Rect.unit (s := S4x8x512) off S1x1x512.size inb) : View sig .tc _ _ _).setOn Finset.univ
      = (Rect.unit (s := S4x8x512) off S1x1x512.size inb).set from View.set_slice_whole _ _]
    intro hj
    obtain ⟨y, hy⟩ := (Rect.unit (s := S4x8x512) off S1x1x512.size inb).toLoadRect.exists_idx_of_mem hj
    exact h (by rw [← hy]; exact (e y).2.1)

theorem line_sub {off : Fin 3 → ℕ} {inb} (p : ℕ) (ho : off = ![0, p, 0]) :
    (cM.access (Rect.unit (s := S4x8x512) off S1x1x512.size inb) : View sig .tc _ _ _).setOn Finset.univ ⊆ (slotM 0).view.set := by
  rw [show (cM.access (Rect.unit (s := S4x8x512) off S1x1x512.size inb) : View sig .tc _ _ _).setOn Finset.univ
      = (Rect.unit (s := S4x8x512) off S1x1x512.size inb).set from View.set_slice_whole _ _]
  intro j hj
  obtain ⟨y, hy⟩ := (Rect.unit (s := S4x8x512) off S1x1x512.size inb).toLoadRect.exists_idx_of_mem hj
  exact (mem_slot 0 j).mpr (by rw [← hy]; exact (line_emb p ho y).1)

theorem line_sub' {off : Fin 3 → ℕ} {inb} (p : ℕ) (ho : off = ![0, p, 0]) :
    cM.view.setOn (Rect.unit (s := S4x8x512) off S1x1x512.size inb).toLoadRect.set ⊆ (slotM 0).view.set := by
  rw [← show (cM.access (Rect.unit (s := S4x8x512) off S1x1x512.size inb) : View sig .tc _ _ _).setOn Finset.univ
      = cM.view.setOn (Rect.unit (s := S4x8x512) off S1x1x512.size inb).toLoadRect.set from View.set_slice _ _]
  exact line_sub p ho

omit [FloatOps F] in
theorem slotHas_lines (f : S4x8x512.Idx → Elt F .f32) (a b : FVec F S1x1x512 .f32) :
    SlotHas 0 ((cM.access lineR1 : View sig .tc _ _ _).write (Elt F) ((cM.access lineR0 : View sig .tc _ _ _).write (Elt F) f a Finset.univ) b Finset.univ) a b := by
  intro j h0
  have h0' : (j 0).val = 0 := h0
  rw [write_line 1 rfl _ _ j h0', write_line 0 rfl _ _ j h0']
  exact ⟨fun h => by rw [if_neg (by omega), if_pos h], fun h => by rw [if_pos h]⟩

omit [FloatOps F] in
/-- What a load of a whole table reads. -/
theorem readAt_tab (M : Memref sig .tc .vmem S8x512 .f32) {T : Vec F S8x512 .f32} {f : M.view.ty.Contents (Elt F)} (h : Good T 8 (M.view.read (Elt F) f)) :
    M.view.readAt (Elt F) (Rect.unit (s := S8x512) ![0, 0] S8x512.size inb_S8x512_S8x512_0_0).toLoadRect f = T := by
  rw [View.readAt_full]; exact h.full

/-- The device's own sums, stored to slot 0. -/
theorem wp_local (c : Dev nD) {M5 M6 : Memref sig .tc .vmem S8x512 .f32} {α : Type} {Q : α → sProp 𝕄}
    {k : Prog (TpuEff nD τ sig (Elt F) Λ₀ .tc) α} :
    iprop(tabPts M5 (sTab m c) 8 c ∗ tabPts M6 (lTab m c) 8 c ∗ ∃ f, slotPts 0 c fullShare f)
      ⊢ iprop(((tabPts M5 (sTab m c) 8 c ∗ tabPts M6 (lTab m c) 8 c ∗ ∃ f, ⌜SlotHas 0 f (sLoc m c) (lLoc m c)⌝ ∗ slotPts 0 c fullShare f)
            -∗ wp frame (wpE (defs₀ (F := F)) 𝒱₀ (c : Thread nD τ) none) Set.univ k Q)
          -∗ wp frame (wpE (defs₀ (F := F)) 𝒱₀ (c : Thread nD τ) none) Set.univ
            (.op (.load M5 (Rect.unit (s := S8x512) ![0, 0] S8x512.size inb_S8x512_S8x512_0_0).toLoadRect (View.loadsAt_vmem h_S8x512)) fun v45 =>
             .op (.load M6 (Rect.unit (s := S8x512) ![0, 0] S8x512.size inb_S8x512_S8x512_0_0).toLoadRect (View.loadsAt_vmem h_S8x512)) fun v47 =>
             .op (.load cM lineR0.toLoadRect (View.loadsAt_vmem h_S1x1x512)) fun _ =>
             .op (.store cM lineR0 (k0_pay4 v45) Finset.univ (View.stores_vmem_bits_univ h_S1x1x512 rfl) (.inl rfl)) fun _ =>
             .op (.load cM lineR1.toLoadRect (View.loadsAt_vmem h_S1x1x512)) fun _ =>
             .op (.store cM lineR1 (k0_pay5 v47) Finset.univ (View.stores_vmem_bits_univ h_S1x1x512 rfl) (.inl rfl)) fun _ => k) Q) := by
  unfold tabPts slotPts
  iintro ⟨⟨%f5, %h5, H5⟩, ⟨%f6, %h6, H6⟩, ⟨%f7, H7⟩⟩ Hk
  iapply (wp_load 𝒱₀ (c : Thread nD τ) none Set.univ (m := M5) (View.setOn_subset_set _ _)) $$ H5; iintro H5
  rw [readAt_tab M5 h5]
  iapply (wp_load 𝒱₀ (c : Thread nD τ) none Set.univ (m := M6) (View.setOn_subset_set _ _)) $$ H6; iintro H6
  rw [readAt_tab M6 h6]
  iapply (wp_load 𝒱₀ (c : Thread nD τ) none Set.univ (m := cM) (line_sub' 0 rfl)) $$ H7; iintro H7
  iapply (wp_store 𝒱₀ (c : Thread nD τ) none Set.univ (m := cM) (r := lineR0) (Mk := Finset.univ) (line_sub 0 rfl)) $$ H7; iintro H7
  iapply (wp_load 𝒱₀ (c : Thread nD τ) none Set.univ (m := cM) (line_sub' 1 rfl)) $$ H7; iintro H7
  iapply (wp_store 𝒱₀ (c : Thread nD τ) none Set.univ (m := cM) (r := lineR1) (Mk := Finset.univ) (line_sub 1 rfl)) $$ H7; iintro H7
  iapply Hk
  isplitl [H5]
  · iexists f5; isplitr; · ipureintro; exact h5
    iexact H5
  isplitl [H6]
  · iexists f6; isplitr; · ipureintro; exact h6
    iexact H6
  · iexists _; isplitr; · ipureintro; exact slotHas_lines f7 _ _
    iexact H7

/-! ## Slots -/

/-- Slots place their indices alike. -/
theorem slot_emb (k : Fin 4) (y : S8x512.Idx) :
    (((slotM k).view.emb y) 0).val = k.val ∧ ((slotM k).view.emb y) 1 = ((slotM 0).view.emb y) 1 ∧ ((slotM k).view.emb y) 2 = ((slotM 0).view.emb y) 2 :=
  ⟨(mem_slot k _).mp (View.emb_mem_set _ _), Fin.ext rfl, Fin.ext rfl⟩

omit [FloatOps F] in
/-- A copy of slot 0 into slot `k` carries what slot 0 holds. -/
theorem slotHas_copy (k : Fin 4) (fs fd : S4x8x512.Idx → Elt F .f32) {a b : FVec F S1x1x512 .f32} (h : SlotHas 0 fs a b) :
    SlotHas k ((slotM k).view.write (Elt F) fd ((slotM 0).view.read (Elt F) fs) Finset.univ) a b := by
  intro j hj
  obtain ⟨y, -, hy⟩ := Finset.mem_map.mp ((mem_slot k j).mpr hj)
  have hw := (slotM k).view.write_emb_of_mem fd ((slotM 0).view.read (Elt F) fs) (Finset.mem_univ y)
  have e := slot_emb k y
  have h' := h ((slotM 0).view.emb y) (slot_emb 0 y).1
  rw [← hy, e.2.1, e.2.2, hw]
  exact h'

omit [FloatOps F] in
theorem slotHas_congr {k : Fin 4} {f g : S4x8x512.Idx → Elt F .f32} {a b : FVec F S1x1x512 .f32} (h : SlotHas k f a b)
    (he : ∀ j ∈ (slotM k).view.set, g j = f j) : SlotHas k g a b := fun j hj => by
  rw [he j ((mem_slot k j).mpr hj)]; exact h j hj

abbrev line4R (p : Fin 2) : Rect S4x8x512 := Rect.unit (s := S4x8x512) ![0, p.val, 0] S4x1x512.size (by revert p; decide)

theorem line4_emb (p : Fin 2) (y : S4x1x512.Idx) :
    ((line4R p).emb y) 0 = y 0 ∧ (((line4R p).emb y) 1).val = p.val ∧ ((line4R p).emb y) 2 = y 2 := by
  have h1 : (y 1).val < 1 := (y 1).isLt
  refine ⟨Fin.ext ?_, ?_, Fin.ext ?_⟩ <;> rw [Rect.emb_apply]
  · show 0 + 1 * (y 0).val = _; omega
  · show p.val + 1 * (y 1).val = _; omega
  · show 0 + 1 * (y 2).val = _; omega

theorem read_gS (c : Dev nD) (g : S4x8x512.Idx → Elt F .f32) (h : ∀ k, SlotHas k g (sLoc m (from_ k c)) (lLoc m (from_ k c))) :
    cM.view.readAt (Elt F) (line4R 0).toLoadRect g = gS m c := by
  funext y
  obtain ⟨e0, e1, e2⟩ := line4_emb 0 y
  have := (h (y 0) ((line4R 0).emb y) (by rw [e0])).1 e1
  rw [e2] at this
  exact this

theorem read_gL (c : Dev nD) (g : S4x8x512.Idx → Elt F .f32) (h : ∀ k, SlotHas k g (sLoc m (from_ k c)) (lLoc m (from_ k c))) :
    cM.view.readAt (Elt F) (line4R 1).toLoadRect g = gL m c := by
  funext y
  obtain ⟨e0, e1, e2⟩ := line4_emb 1 y
  have := (h (y 0) ((line4R 1).emb y) (by rw [e0])).2 e1
  rw [e2] at this
  exact this

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The whole communication buffer is its four slots. -/
theorem comm_split (c : Dev nD) (f : S4x8x512.Idx → Elt F .f32) :
    ((c : Thread nD τ).loc cc0_scratch2 ↦{fullShare} f : sProp 𝕄)
      = iprop(slotPts 0 c fullShare f ∗ slotPts 1 c fullShare f ∗ slotPts 2 c fullShare f ∗ slotPts 3 c fullShare f) := by
  have h := pointsTo_biUnion (Ix := Unit) (Name := ℕ) (U := UU) (Lvl := ℕ) (ℓ := (c : Thread nD τ).loc cc0_scratch2) (q := fullShare) (f := f)
    (Finset.univ : Finset (Fin 4)) (fun k => (slotM k).view.set) (fun k _ k' _ hk => slots_disjoint k k' hk)
  rw [slots_cover] at h
  exact h.trans (bigSep_four _)

omit [FloatOps F] in
theorem comm_join (c : Dev nD) (fs : Fin 4 → S4x8x512.Idx → Elt F .f32) :
    iprop(slotPts 0 c fullShare (fs 0) ∗ slotPts 1 c fullShare (fs 1) ∗ slotPts 2 c fullShare (fs 2) ∗ slotPts 3 c fullShare (fs 3))
      ⊢ (iprop(∃ g : S4x8x512.Idx → Elt F .f32, ⌜∀ k, ∀ j ∈ (slotM k).view.set, g j = fs k j⌝ ∗ (c : Thread nD τ).loc cc0_scratch2 ↦{fullShare} g) : sProp 𝕄) := by
  have h := pointsTo_biUnion_join (Ix := Unit) (Name := ℕ) (U := UU) (Lvl := ℕ) (ℓ := (c : Thread nD τ).loc cc0_scratch2) (q := fullShare)
    (Finset.univ : Finset (Fin 4)) (fun k => (slotM k).view.set) fs (fs 0) (fun k _ k' _ hk => slots_disjoint k k' hk)
  rw [slots_cover] at h
  refine ((Entails.of_eq (bigSep_four _).symm).trans h).trans ?_
  iintro ⟨%g, %hg, H⟩
  iexists g
  isplitr; · ipureintro; exact fun k => hg k (Finset.mem_univ k)
  iexact H

omit [FloatOps F] in
/-- The three shares of slot 0, rejoined. -/
theorem slot_thirds (c : Dev nD) (f f' f'' : S4x8x512.Idx → Elt F .f32) :
    iprop(slotPts 0 c (Ring.shares3 fullShare 0) f ∗ slotPts 0 c (Ring.shares3 fullShare 1) f' ∗ slotPts 0 c (Ring.shares3 fullShare 2) f'')
      ⊢ (slotPts 0 c fullShare f : sProp 𝕄) := by
  unfold slotPts
  iintro ⟨H0, H1, H2⟩
  ihave %h1 := (pointsTo_agree (ℓ := (slotM 0).view.loc (c : Thread nD τ)) (I := (slotM 0).view.set) (J := (slotM 0).view.set)) $$ [H0 H1]
  · isplitl [H0] <;> iassumption
  ihave %h2 := (pointsTo_agree (ℓ := (slotM 0).view.loc (c : Thread nD τ)) (I := (slotM 0).view.set) (J := (slotM 0).view.set)) $$ [H0 H2]
  · isplitl [H0] <;> iassumption
  ihave H1 := (Entails.of_eq (pointsTo_congr (q := Ring.shares3 fullShare 1) (fun i hi => ((h1 i (Finset.mem_inter.mpr ⟨hi, hi⟩)).1).symm))) $$ H1
  ihave H2 := (Entails.of_eq (pointsTo_congr (q := Ring.shares3 fullShare 2) (fun i hi => ((h2 i (Finset.mem_inter.mpr ⟨hi, hi⟩)).1).symm))) $$ H2
  iapply (Ring.pointsTo_thirds fullShare f).2
  isplitl [H0]; · iexact H0
  isplitl [H1] <;> iassumption

end Cert.RingKernelIdeal

end
-- ==== Proof.BodyKernelIdeal.lean ====
/-
The body of `KernelIdeal` at every grid point: from what the device holds before the point to what it holds after.

Before the first point a device holds its own communication buffer and the tokens of its three signals; between points it
holds slot 0 and the rows done so far; after the last point everything is back and every semaphore is at zero.
-/
module

public import proofs.«01_k».proof.Proof.StepsKernelIdeal

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds -/

/-- Every cell's invariant, under the names the launch gave them, and that every cell is at round 0 or later. -/
def records (K : Dev nD × Fin 7 → ℕ) : sProp 𝕄 :=
  iprop(bigSep Finset.univ (fun cj : Dev nD × Fin 7 => cellInv EX (sched m) (K cj) (kcell cj))
    ∗ bigSep Finset.univ (fun cj : Dev nD × Fin 7 => reached EX (kcell cj) 0))

instance records_persistent (K : Dev nD × Fin 7 → ℕ) : BI.Persistent (records m K) := by unfold records; infer_instance

theorem records_inv (K : Dev nD × Fin 7 → ℕ) (cj : Dev nD × Fin 7) : records m K ⊢ cellInv EX (sched m) (K cj) (kcell cj) := by
  unfold records
  exact sep_elim_left.trans (bigSep_elim (Finset.mem_univ cj))

theorem records_reached (K : Dev nD × Fin 7 → ℕ) (cj : Dev nD × Fin 7) : records m K ⊢ (reached EX (kcell cj) 0 : sProp 𝕄) := by
  unfold records
  exact sep_elim_right.trans (bigSep_elim (Finset.mem_univ cj))

section Records
variable (K : Dev nD × Fin 7 → ℕ) (c : Dev nD) (k : Fin 3)

theorem inv_send : records m K ⊢ cellInv EX (sched m) (K (c, sj k)) (sendCell c k) := by rw [← kcell_send]; exact records_inv m K (c, sj k)
theorem inv_recv : records m K ⊢ cellInv EX (sched m) (K (c, rj k)) (recvCell c k) := by rw [← kcell_recv]; exact records_inv m K (c, rj k)
theorem reached_send : records m K ⊢ (reached EX (sendCell c k) 0 : sProp 𝕄) := by rw [← kcell_send]; exact records_reached m K (c, sj k)
theorem reached_recv : records m K ⊢ (reached EX (recvCell c k) 0 : sProp 𝕄) := by rw [← kcell_recv]; exact records_reached m K (c, rj k)

end Records

/-- Device `c`'s part of its `k`-th exchange: its positions, its tokens and the credit of its receive. -/
def lane (c : Dev nD) (k : Fin 3) : sProp 𝕄 :=
  iprop(atPos EX (sendCell c k) 0 ∅ 0 ∗ atPos EX (recvCell c k) 0 ∅ 0
    ∗ dutyTok EX (sendCell c k) 0 0 ∗ dutyTok EX (recvCell (sh k c) k) 0 0
    ∗ cred (tallyAt (recvCell c k) () N))

def barTok (c : Dev nD) (k : Fin 3) : sProp 𝕄 := dutyTok EX (barCell (sh k c)) 0 (op k)

def idles (c : Dev nD) : sProp 𝕄 := iprop(semVal ((c : Thread nD τ), SemLoc.dma idleQ₁) 0 ∗ semVal ((c : Thread nD τ), SemLoc.dma idleQ₂) 0)

def base (K : Dev nD × Fin 7 → ℕ) (c : Dev nD) : sProp 𝕄 :=
  iprop(records m K ∗ levAts L lv ∗ atPos EX (barCell c) 0 ∅ 0 ∗ cred (tallyAt (barCell c) () 3)
    ∗ (lane c 0 ∗ lane c 1 ∗ lane c 2) ∗ idles c)

abbrev sM : Memref sig .tc .vmem S8x512 .f32 := Memref.whole cc0_scratch0
abbrev tM : Memref sig .tc .vmem S8x512 .f32 := Memref.whole cc0_scratch1

def Φmid (c : Dev nD) (t : ℕ) : sProp 𝕄 :=
  iprop((∃ K, base m K c) ∗ tabPts sM (sTab m c) t c ∗ tabPts tM (lTab m c) t c ∗ ∃ f, slotPts 0 c fullShare f)

def Φ₀ (c : Dev nD) : sProp 𝕄 :=
  iprop((∃ K, base m K c) ∗ (barTok c 0 ∗ barTok c 1 ∗ barTok c 2) ∗ tabPts sM (sTab m c) 0 c ∗ tabPts tM (lTab m c) 0 c
    ∗ ∃ f, (c : Thread nD τ).loc cc0_scratch2 ↦{fullShare} f)

/-- The semaphores of the `k`-th exchange, at zero. -/
def laneZ (c : Dev nD) (k : Fin 3) : sProp 𝕄 := iprop(semVal (sendCell c k) 0 ∗ semVal (recvCell c k) 0)

def Φ₈ (c : Dev nD) : sProp 𝕄 :=
  iprop(semVal (barCell c) 0 ∗ (laneZ c 0 ∗ laneZ c 1 ∗ laneZ c 2) ∗ idles c
    ∗ tabPts sM (sTab m c) 8 c ∗ tabPts tM (lTab m c) 8 c ∗ ∃ f, (c : Thread nD τ).loc cc0_scratch2 ↦{fullShare} f)

def phi (c : Dev nD) (t : ℕ) : sProp 𝕄 := if t = 0 then Φ₀ m c else if t < 8 then Φmid m c t else Φ₈ m c

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c
  Φ t := phi m c t.val
  q _ := fullShare
  owed t := owedAt c t.val

/-! ## The exchange's steps -/

section Steps
variable (K : Dev nD × Fin 7 → ℕ) (c : Dev nD)

/-- A signal to the barrier of the peer `k + 1` places ahead hands it the slot it will fill. -/
theorem wp_signal_peer {α : Type} {Q : α → sProp 𝕄} (k : Fin 3) (n : Dev nD) (hn : n = sh k c) {O₀ : CellTallies nD τ sig Unit} (O : CellTallies nD τ sig Unit)
    (hO : O₀ = O + tallyAt (barCell (sh k c)) () 1) (W : Waits sig Unit) {kk : PUnit → Prog (TpuEff nD τ sig (Elt F) Λ₀ .tc) α}
    (f : S4x8x512.Idx → Elt F .f32) :
    iprop(records m K ∗ owes (c : Thread nD τ) O₀ W ∗ barTok c k ∗ slotPts (op k).succ c fullShare f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS 1) kk) Q) := by
  subst hn
  unfold barTok
  iintro ⟨#HR, HO, Ht, Hs⟩ Hk
  iapply (Rounds.wp_signal 𝒱₀ EX (sched m) (c : Thread nD τ) none (dst := (sh k c : Thread nD τ)) (κ := K (sh k c, 0)) (sem := barS) (r := 0)
      (d := op k) (by rw [duties_bar]; exact Finset.mem_univ _) (amount_bar m (sh k c) (op k)) () O hO) $$ [HO Ht Hs]
  · isplitr; · iapply (records_inv m K (sh k c, 0)); iexact HR
    isplitl [HO]; · iexact HO
    isplitl [Ht]; · iexact Ht
    isplitl [Hs]
    · rw [payload_bar]; unfold barPay; rw [sh_op_sh]; iexists f; iexact Hs
    iapply (records_reached m K (sh k c, 0)); iexact HR
  iexact Hk

set_option maxHeartbeats 400000 in
/-- The copy of slot 0 to the peer `k + 1` places ahead. -/
theorem wp_send_peer {α : Type} {Q : α → sProp 𝕄} (k : Fin 3) (n : Dev nD) (hn : n = sh k c)
    {hsc : (slotM k.succ : Memref sig (Dev.tc n : Thread nD τ).2.kind .vmem S8x512 .f32).view.ref.isScScratch = false}
    {hsrc : (slotM 0).view.WordExact} {hdst : (slotM k.succ).view.WordExact}
    {hsem : DmaTarget.Typed .vmem (.dma (recvQ k)) (.remote (Dev.tc n : Thread nD τ) (slotM k.succ) (.dma (sendQ k)) hsc)}
    {O₀ : CellTallies nD τ sig Unit} (O : CellTallies nD τ sig Unit) (hO : O₀ = O + tallyAt (recvCell (sh k c) k) () N) (W : Waits sig Unit)
    {kk : PUnit → Prog (TpuEff nD τ sig (Elt F) Λ₀ .tc) α} (fs fd : S4x8x512.Idx → Elt F .f32) (hfs : SlotHas 0 fs (sLoc m c) (lLoc m c)) :
    iprop(records m K ∗ slotPts 0 c (Ring.shares3 fullShare k) fs ∗ slotPts k.succ (sh k c) fullShare fd ∗ owes (c : Thread nD τ) O₀ W
        ∗ dutyTok EX (sendCell c k) 0 0 ∗ dutyTok EX (recvCell (sh k c) k) 0 0)
      ⊢ iprop(((cred (tallyAt (sendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM k.succ) (.dma (sendQ k)) hsc) (.dma (recvQ k)) hsrc hdst hsem) kk) Q) := by
  subst hn
  unfold slotPts
  iintro ⟨#HR, Hs, Hd, HO, Hts, Htr⟩ Hk
  iapply (Rounds.wp_send_pointsTo 𝒱₀ EX (sched m) (c : Thread nD τ) none (κ₁ := K (c, sj k)) (κ₂ := K (sh k c, rj k))
    (c' := (sh k c : Thread nD τ)) (src := slotM 0) (dst := slotM k.succ) (r₁ := 0) (r₂ := 0) (d₁ := 0) (d₂ := 0) (fs := fs) (fd := fd)
    (by rw [duties_send]; exact Finset.mem_singleton_self _) (by rw [duties_recv]; exact Finset.mem_singleton_self _)
    () () N (by exact credit_slot k.succ) (amount_send m c k 0) (amount_recv m (sh k c) k 0) O hO (W := W)
    (by
      rw [payload_send]; unfold sendPay slotPts
      iintro H; iexists fs
      isplitr; · ipureintro; exact hfs
      iexact H)
    (by
      rw [payload_recv]; unfold recvPay slotPts; rw [sh_op_sh]
      iintro H; iexists _
      isplitr; · ipureintro; exact slotHas_copy k.succ fs fd hfs
      iexact H)) $$ [Hs Hd HO Hts Htr]
  · isplitr; · iapply (inv_send m K c k); iexact HR
    isplitr; · iapply (inv_recv m K (sh k c) k); iexact HR
    isplitl [Hs]; · iexact Hs
    isplitl [Hd]; · iexact Hd
    isplitl [HO]; · iexact HO
    isplitl [Hts]; · iexact Hts
    isplitr; · iapply (reached_send m K c k); iexact HR
    isplitl [Htr]; · iexact Htr
    iapply (reached_recv m K (sh k c) k); iexact HR
  iexact Hk

/-- The wait for the `k`-th copy to have left: slot 0's share is back and the send semaphore is at zero. -/
theorem wp_wait_send {α : Type} {Q : α → sProp 𝕄} (k : Fin 3) (W : Waits sig Unit) {h₁ : (slotM k.succ).view.WordExact} {h₂ : (slotM 0).view.WordExact}
    {kk : PUnit → Prog (TpuEff nD τ sig (Elt F) Λ₀ .tc) α} :
    iprop(records m K ∗ cred (tallyAt (sendCell c k) () N) ∗ owes (c : Thread nD τ) 0 W ∗ atPos EX (sendCell c k) 0 ∅ 0)
      ⊢ iprop((((∃ W', owes (c : Thread nD τ) 0 W') ∗ semVal (sendCell c k) 0 ∗ sendPay m c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sendQ k) (slotM k.succ) (slotM 0) h₁ h₂) kk) Q) := by
  iintro ⟨#HR, Hc, HO, Ha⟩ Hk
  have hi := inv_send m K c k
  iapply (Rounds.wp_wait_rest_token 𝒱₀ EX (sched m) (c : Thread nD τ) none (κ := K (c, sj k))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iapply hi; iexact HR
    isplitl [Hc]; · iexact Hc
    isplitl [HO]; · iexact HO
    isplitr; · rw [MayWait_zero]; iempintro
    iexact Ha
  iintro ⟨HO, Ha, -, Hpay⟩
  ihave Hp := (Entails.of_eq (rest_send m c k)) $$ Hpay
  imod (Rounds.cell_close EX (sched m) (Set.mem_univ (K (c, sj k))) (fun h => h) (R := 0 + 1) (duties_later m (sendCell c k))) $$ [Ha] with Hz
  · isplitr; · iapply hi; iexact HR
    iexact Ha
  iapply Hk
  isplitl [HO]; · iexists _; iexact HO
  isplitl [Hz] <;> iassumption

/-- The wait for the `k`-th incoming copy: slot `k + 1` with the peer's sums, and the receive semaphore at zero. -/
theorem wp_wait_recv {α : Type} {Q : α → sProp 𝕄} (k : Fin 3) (W : Waits sig Unit) {h₁ : (slotM 0).view.WordExact} {h₂ : (slotM k.succ).view.WordExact}
    {kk : PUnit → Prog (TpuEff nD τ sig (Elt F) Λ₀ .tc) α} :
    iprop(records m K ∗ cred (tallyAt (recvCell c k) () N) ∗ owes (c : Thread nD τ) 0 W ∗ atPos EX (recvCell c k) 0 ∅ 0)
      ⊢ iprop((((∃ W', owes (c : Thread nD τ) 0 W') ∗ semVal (recvCell c k) 0 ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (recvQ k) (slotM 0) (slotM k.succ) h₁ h₂) kk) Q) := by
  iintro ⟨#HR, Hc, HO, Ha⟩ Hk
  have hi := inv_recv m K c k
  iapply (Rounds.wp_wait_rest_token 𝒱₀ EX (sched m) (c : Thread nD τ) none (κ := K (c, rj k))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iapply hi; iexact HR
    isplitl [Hc]; · iexact Hc
    isplitl [HO]; · iexact HO
    isplitr; · rw [MayWait_zero]; iempintro
    iexact Ha
  iintro ⟨HO, Ha, -, Hpay⟩
  ihave Hp := (Entails.of_eq (rest_recv m c k)) $$ Hpay
  imod (Rounds.cell_close EX (sched m) (Set.mem_univ (K (c, rj k))) (fun h => h) (R := 0 + 1) (duties_later m (recvCell c k))) $$ [Ha] with Hz
  · isplitr; · iapply hi; iexact HR
    iexact Ha
  iapply Hk
  isplitl [HO]; · iexists _; iexact HO
  isplitl [Hz] <;> iassumption

/-- The barrier wait: each peer's slot for this device, and the barrier semaphore at zero. -/
theorem wp_wait_bar {α : Type} {Q : α → sProp 𝕄} (W : Waits sig Unit) {kk : PUnit → Prog (TpuEff nD τ sig (Elt F) Λ₀ .tc) α} :
    iprop(records m K ∗ levAts L lv ∗ cred (tallyAt (barCell c) () 3) ∗ owes (c : Thread nD τ) (O₃ c) W ∗ atPos EX (barCell c) 0 ∅ 0)
      ⊢ iprop((((∃ W', owes (c : Thread nD τ) (O₃ c) W') ∗ semVal (barCell c) 0 ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 3) kk) Q) := by
  iintro ⟨#HR, #Hl, Hc, HO, Ha⟩ Hk
  iapply (Rounds.wp_wait_rest_token 𝒱₀ EX (sched m) (c : Thread nD τ) none (κ := K (c, 0))
      (wpE_semWait_eq 𝒱₀ (c : Thread nD τ) none Set.univ) (Set.mem_univ _) () (O := O₃ c) (W := W) (R := 0) (m := 0) (T := ∅)
      (by rw [Nat.zero_add, expect_bar])) $$ [Hc HO Ha]
  · isplitr; · iapply (records_inv m K (c, 0)); iexact HR
    isplitl [Hc]; · iexact Hc
    isplitl [HO]; · iexact HO
    isplitr; · iapply (mayWait_bar c); iexact Hl
    iexact Ha
  iintro ⟨HO, Ha, -, Hpay⟩
  ihave Hp := (Entails.of_eq (rest_bar m c)) $$ Hpay
  imod (Rounds.cell_close EX (sched m) (Set.mem_univ (K (c, 0))) (fun h => h) (R := 0 + 1) (duties_later m (barCell c))) $$ [Ha] with Hz
  · isplitr; · iapply (records_inv m K (c, 0)); iexact HR
    iexact Ha
  iapply Hk
  isplitl [HO]; · iexists _; iexact HO
  isplitl [Hz] <;> iassumption

end Steps

/-! ## The body at a point -/

/-- The three input blocks of point `t`, in their buffers. -/
def ins (c : Dev nD) (t : Fin cfg0.N) (M1 : Memref sig .tc .vmem S512x1024 .bf16) (M2 : Memref sig .tc .vmem S1024x1024 .bf16)
    (M3 : Memref sig .tc .vmem S512 .i32) : sProp 𝕄 :=
  iprop(owns (c : Thread nD τ) M1 fullShare (xB m c t) ∗ owns (c : Thread nD τ) M2 fullShare (wB m c t) ∗ owns (c : Thread nD τ) M3 fullShare (lB m c t))

theorem cond1_first (t : Fin cfg0.N) (h : t.val = 0) : k0_cond1 (grid0.coords t) = 1#1 := by
  rcases fin_N0 t with rfl | rfl | rfl | rfl | rfl | rfl | rfl | rfl <;> first | rfl | exact absurd h (by decide)
theorem cond1_later (t : Fin cfg0.N) (h : t.val ≠ 0) : ¬ k0_cond1 (grid0.coords t) = 1#1 := by
  rcases fin_N0 t with rfl | rfl | rfl | rfl | rfl | rfl | rfl | rfl <;> first | decide | exact absurd rfl h
theorem cond2_last (t : Fin cfg0.N) (h : t.val = 7) : k0_cond2 (grid0.coords t) = 1#1 := by
  rcases fin_N0 t with rfl | rfl | rfl | rfl | rfl | rfl | rfl | rfl <;> first | rfl | exact absurd h (by decide)
theorem cond2_earlier (t : Fin cfg0.N) (h : t.val ≠ 7) : ¬ k0_cond2 (grid0.coords t) = 1#1 := by
  rcases fin_N0 t with rfl | rfl | rfl | rfl | rfl | rfl | rfl | rfl <;> first | decide | exact absurd rfl h

section Points
variable (c : Dev nD) (t : Fin cfg0.N) {M1 : Memref sig .tc .vmem S512x1024 .bf16} {h1 : M1.IsWhole}
  {M2 : Memref sig .tc .vmem S1024x1024 .bf16} {h2 : M2.IsWhole} {M3 : Memref sig .tc .vmem S512 .i32} {h3 : M3.IsWhole}
  {M4 : Memref sig .tc .vmem S512 .f32} {h4 : M4.IsWhole}

/-- Between the first and the last point: two rows more. -/
theorem body_mid {Q : PUnit → sProp 𝕄} (hf : t.val ≠ 0) (hl : t.val ≠ 7) :
    iprop(Φmid m c t.val ∗ ins m c t M1 M2 M3)
      ⊢ iprop(((Φmid m c (t.val + 1) ∗ ins m c t M1 M2 M3) -∗ Q ⟨⟩)
          -∗ wp frame (wpE (defs₀ (F := F)) 𝒱₀ (c : Thread nD τ) none) Set.univ
            (cc0_body (grid0.coords t) M1 h1 M2 h2 M3 h3 M4 h4 (Memref.whole cc0_scratch0) (Memref.isWhole_whole _)
              (Memref.whole cc0_scratch1) (Memref.isWhole_whole _) (Memref.whole cc0_scratch2) (Memref.isWhole_whole _) cc0_scratch3 cc0_scratch4) Q) := by
  simp only [cc0_body_eq_skeleton]; unfold cc0_body_skel
  simp only [k0_part7_eq_skeleton]; unfold k0_part7_skel
  simp only [dif_neg (cond1_later t hf), dif_neg (cond2_earlier t hl), Prog.lift, Prog.bind_op, Prog.bind_ret, Prog.pure_eq_ret, wp_deviceId]
  unfold Φmid ins
  iintro ⟨⟨Hb, Hs, Hl, Hc⟩, Hx, Hw, Hla⟩ Hk
  iapply (wp_rows m c t) $$ [Hx Hw Hla Hs Hl]
  · isplitl [Hx]; · iexact Hx
    isplitl [Hw]; · iexact Hw
    isplitl [Hla]; · iexact Hla
    isplitl [Hs] <;> iassumption
  iintro ⟨Hx, Hw, Hla, Hs, Hl⟩
  rw [wp_ret]; imodintro
  iapply Hk
  isplitl [Hb Hs Hl Hc]
  · isplitl [Hb]; · iexact Hb
    isplitl [Hs]; · iexact Hs
    isplitl [Hl] <;> iassumption
  isplitl [Hx]; · iexact Hx
  isplitl [Hw] <;> iassumption

set_option maxHeartbeats 800000 in
/-- The first point: the three signals, each with the slot its receiver will fill, and two rows. -/
theorem body_first {Q : PUnit → sProp 𝕄} (hf : t.val = 0) :
    iprop(Φ₀ m c ∗ (∃ W, owes (c : Thread nD τ) (O₆ c) W) ∗ ins m c t M1 M2 M3)
      ⊢ iprop(((Φmid m c 1 ∗ (∃ W, owes (c : Thread nD τ) (O₃ c) W) ∗ ins m c t M1 M2 M3) -∗ Q ⟨⟩)
          -∗ wp frame (wpE (defs₀ (F := F)) 𝒱₀ (c : Thread nD τ) none) Set.univ
            (cc0_body (grid0.coords t) M1 h1 M2 h2 M3 h3 M4 h4 (Memref.whole cc0_scratch0) (Memref.isWhole_whole _)
              (Memref.whole cc0_scratch1) (Memref.isWhole_whole _) (Memref.whole cc0_scratch2) (Memref.isWhole_whole _) cc0_scratch3 cc0_scratch4) Q) := by
  simp only [cc0_body_eq_skeleton]; unfold cc0_body_skel
  simp only [k0_part7_eq_skeleton]; unfold k0_part7_skel
  simp only [dif_pos (cond1_first t hf), dif_neg (cond2_earlier t (by rw [hf]; decide)), k0_part1_eq_skeleton]; unfold k0_part1_skel
  simp only [semSignalWord, Prog.lift, Prog.bind_op, Prog.bind_ret, Prog.pure_eq_ret, wp_deviceId]
  unfold Φ₀ Φmid ins base
  iintro ⟨⟨⟨%K, ⟨#HR, Hb⟩⟩, ⟨Ht0, Ht1, Ht2⟩, Hs, Hl, ⟨%f, Hc⟩⟩, ⟨%W, HO⟩, Hx, Hw, Hla⟩ Hk
  ihave Hc := (Entails.of_eq (comm_split c f)) $$ Hc
  icases Hc with ⟨Hc0, Hc1, Hc2, Hc3⟩
  iapply (wp_signal_peer m K c 0 _ (dev1_sh c _) (O₅ c) rfl W f) $$ [HO Ht0 Hc3]
  · isplitr; · iexact HR
    isplitl [HO]; · iexact HO
    isplitl [Ht0]; · iexact Ht0
    iexact Hc3
  iintro HO
  iapply (wp_signal_peer m K c 1 _ (dev2_sh c _) (O₄ c) rfl W f) $$ [HO Ht1 Hc2]
  · isplitr; · iexact HR
    isplitl [HO]; · iexact HO
    isplitl [Ht1]; · iexact Ht1
    iexact Hc2
  iintro HO
  iapply (wp_signal_peer m K c 2 _ (dev3_sh c _) (O₃ c) rfl W f) $$ [HO Ht2 Hc1]
  · isplitr; · iexact HR
    isplitl [HO]; · iexact HO
    isplitl [Ht2]; · iexact Ht2
    iexact Hc1
  iintro HO
  iapply (wp_rows m c t) $$ [Hx Hw Hla Hs Hl]
  · isplitl [Hx]; · iexact Hx
    isplitl [Hw]; · iexact Hw
    isplitl [Hla]; · iexact Hla
    rw [hf]
    isplitl [Hs] <;> iassumption
  iintro ⟨Hx, Hw, Hla, Hs, Hl⟩
  rw [wp_ret]; imodintro
  iapply Hk
  isplitl [Hb Hs Hl Hc0]
  · isplitl [Hb]
    · iexists K; isplitr; · iexact HR
      iexact Hb
    rw [hf]
    isplitl [Hs]; · iexact Hs
    isplitl [Hl]; · iexact Hl
    iexists f; iexact Hc0
  isplitl [HO]; · iexists W; iexact HO
  isplitl [Hx]; · iexact Hx
  isplitl [Hw] <;> iassumption

end Points

end Cert.RingKernelIdeal

end
-- ==== Proof.LastKernelIdeal.lean ====
/-
The last grid point of `KernelIdeal` on one device: the exchange of the partial sums and the result.
-/
module

public import proofs.«01_k».proof.Proof.BodyKernelIdeal

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Points
variable (c : Dev nD) (t : Fin cfg0.N) {M1 : Memref sig .tc .vmem S512x1024 .bf16} {h1 : M1.IsWhole}
  {M2 : Memref sig .tc .vmem S1024x1024 .bf16} {h2 : M2.IsWhole} {M3 : Memref sig .tc .vmem S512 .i32} {h3 : M3.IsWhole}
  {M4 : Memref sig .tc .vmem S512 .f32} {h4 : M4.IsWhole}

/-- Slot 0 lent to the three sends. -/
theorem slot_lend (c : Dev nD) (f : S4x8x512.Idx → Elt F .f32) :
    (slotPts 0 c fullShare f : sProp 𝕄)
      ⊢ iprop(slotPts 0 c (Ring.shares3 fullShare 0) f ∗ slotPts 0 c (Ring.shares3 fullShare 1) f ∗ slotPts 0 c (Ring.shares3 fullShare 2) f) := by
  unfold slotPts
  iintro H
  iapply (Ring.pointsTo_thirds (ℓ := (slotM 0).view.loc (c : Thread nD τ)) (I := (slotM 0).view.set) fullShare f).1
  iexact H

omit [FloatOps F] in
/-- A store of a whole block reads back as what was stored. -/
theorem read_write_out (M : Memref sig .tc .vmem S512 .f32) (f : M.view.ty.Contents (Elt F)) (w : Vec F S512 .f32) :
    M.view.read (Elt F) ((M.access (Rect.unit (s := S512) ![0] S512.size inb_S512_S512_0)).write (Elt F) f w Finset.univ) = w := by
  funext j
  have he : (Rect.unit (s := S512) ![0] S512.size inb_S512_S512_0).emb j = j := funext fun a => by
    match a with
    | ⟨0, _⟩ => exact Fin.ext ((Rect.emb_apply _ _ _).trans (by show 0 + 1 * (j 0).val = (j 0).val; omega))
  conv_lhs => rw [← he, View.read_apply]
  rw [show M.view.emb ((Rect.unit (s := S512) ![0] S512.size inb_S512_S512_0).emb j)
      = (M.access (Rect.unit (s := S512) ![0] S512.size inb_S512_S512_0)).emb j from rfl,
    (M.access (Rect.unit (s := S512) ![0] S512.size inb_S512_S512_0)).write_emb_of_mem f w (Finset.mem_univ j)]
  exact cast_cast _ _ _

set_option maxHeartbeats 400000 in
/-- The last point: two rows more, the device's own sums into slot 0, the exchange, and the result. -/
theorem body_last {Q : PUnit → sProp 𝕄} (hl : t.val = 7) :
    iprop(Φmid m c 7 ∗ (∃ W, owes (c : Thread nD τ) (O₃ c) W) ∗ ins m c t M1 M2 M3 ∗ ∃ X, owns (c : Thread nD τ) M4 fullShare X)
      ⊢ iprop(((Φ₈ m c ∗ (∃ W, owes (c : Thread nD τ) 0 W) ∗ ins m c t M1 M2 M3 ∗ owns (c : Thread nD τ) M4 fullShare (outAt m c)) -∗ Q ⟨⟩)
          -∗ wp frame (wpE (defs₀ (F := F)) 𝒱₀ (c : Thread nD τ) none) Set.univ
            (cc0_body (grid0.coords t) M1 h1 M2 h2 M3 h3 M4 h4 (Memref.whole cc0_scratch0) (Memref.isWhole_whole _)
              (Memref.whole cc0_scratch1) (Memref.isWhole_whole _) (Memref.whole cc0_scratch2) (Memref.isWhole_whole _) cc0_scratch3 cc0_scratch4) Q) := by
  simp only [cc0_body_eq_skeleton]; unfold cc0_body_skel
  simp only [k0_part7_eq_skeleton]; unfold k0_part7_skel
  simp only [dif_neg (cond1_later t (by rw [hl]; decide)), dif_pos (cond2_last t hl), Prog.lift, Prog.bind_op, Prog.bind_ret, Prog.pure_eq_ret, wp_deviceId]
  unfold Φmid ins base lane
  have hrows := @wp_rows F _ m c t M1 M2 M3 sM tM PUnit Q
  rw [hl] at hrows
  iintro ⟨⟨⟨%K, ⟨#HR, #Hlev, HaB, HcB, ⟨⟨HaS0, HaR0, HtS0, HtR0, HcR0⟩, ⟨HaS1, HaR1, HtS1, HtR1, HcR1⟩, ⟨HaS2, HaR2, HtS2, HtR2, HcR2⟩⟩, Hid⟩⟩, Hs, Hl, Hc⟩,
    ⟨%W, HO⟩, ⟨Hx, Hw, Hla⟩, ⟨%X, Ho⟩⟩ Hk
  iapply hrows $$ [Hx Hw Hla Hs Hl]
  · isplitl [Hx]; · iexact Hx
    isplitl [Hw]; · iexact Hw
    isplitl [Hla]; · iexact Hla
    isplitl [Hs] <;> iassumption
  iintro ⟨Hx, Hw, Hla, Hs, Hl⟩
  simp only [k0_part2_eq_skeleton]; unfold k0_part2_skel
  simp only [semWaitWord, Prog.lift, Prog.bind_op, Prog.bind_ret, Prog.pure_eq_ret]
  iapply (wp_local m c) $$ [Hs Hl Hc]
  · isplitl [Hs]; · iexact Hs
    isplitl [Hl] <;> iassumption
  iintro ⟨Hs, Hl, ⟨%f0, %hf0, Hc0⟩⟩
  iapply (wp_wait_bar m K c W) $$ [HcB HO HaB]
  · isplitr; · iexact HR
    isplitr; · iexact Hlev
    isplitl [HcB]; · iexact HcB
    isplitl [HO]; · iexact HO
    iexact HaB
  unfold barPay
  iintro ⟨⟨%W₁, HO⟩, HzB, ⟨%g1, Hd1⟩, ⟨%g2, Hd2⟩, ⟨%g3, Hd3⟩⟩
  ihave Hc0 := (slot_lend c f0) $$ Hc0
  icases Hc0 with ⟨Hq0, Hq1, Hq2⟩
  simp only [k0_part3_eq_skeleton]; unfold k0_part3_skel
  simp only [semWaitWord, Prog.lift, Prog.bind_op, Prog.bind_ret, Prog.pure_eq_ret]
  iapply (wp_send_peer m K c 0 _ (dev4_sh c _) (O₂ c) rfl W₁ f0 g1 hf0) $$ [HO Hq0 Hd1 HtS0 HtR0]
  · isplitr; · iexact HR
    isplitl [Hq0]; · iexact Hq0
    isplitl [Hd1]; · iexact Hd1
    isplitl [HO]; · iexact HO
    isplitl [HtS0]; · iexact HtS0
    iexact HtR0
  iintro ⟨HcS0, HO⟩
  iapply (wp_send_peer m K c 1 _ (dev5_sh c _) (O₁ c) rfl W₁ f0 g2 hf0) $$ [HO Hq1 Hd2 HtS1 HtR1]
  · isplitr; · iexact HR
    isplitl [Hq1]; · iexact Hq1
    isplitl [Hd2]; · iexact Hd2
    isplitl [HO]; · iexact HO
    isplitl [HtS1]; · iexact HtS1
    iexact HtR1
  iintro ⟨HcS1, HO⟩
  simp only [k0_part4_eq_skeleton]; unfold k0_part4_skel
  simp only [semWaitWord, Prog.lift, Prog.bind_op, Prog.bind_ret, Prog.pure_eq_ret]
  iapply (wp_send_peer m K c 2 _ (dev6_sh c _) (0) (zero_add _).symm W₁ f0 g3 hf0) $$ [HO Hq2 Hd3 HtS2 HtR2]
  · isplitr; · iexact HR
    isplitl [Hq2]; · iexact Hq2
    isplitl [Hd3]; · iexact Hd3
    isplitl [HO]; · iexact HO
    isplitl [HtS2]; · iexact HtS2
    iexact HtR2
  iintro ⟨HcS2, HO⟩
  iapply (wp_wait_send m K c 0 W₁) $$ [HcS0 HO HaS0]
  · isplitr; · iexact HR
    isplitl [HcS0]; · iexact HcS0
    isplitl [HO]; · iexact HO
    iexact HaS0
  iintro ⟨⟨%W₂, HO⟩, HzS0, HS0⟩
  simp only [k0_part5_eq_skeleton]; unfold k0_part5_skel
  simp only [semWaitWord, Prog.lift, Prog.bind_op, Prog.bind_ret, Prog.pure_eq_ret]
  iapply (wp_wait_recv m K c 0 W₂) $$ [HcR0 HO HaR0]
  · isplitr; · iexact HR
    isplitl [HcR0]; · iexact HcR0
    isplitl [HO]; · iexact HO
    iexact HaR0
  iintro ⟨⟨%W₃, HO⟩, HzR0, HR0⟩
  iapply (wp_wait_send m K c 1 W₃) $$ [HcS1 HO HaS1]
  · isplitr; · iexact HR
    isplitl [HcS1]; · iexact HcS1
    isplitl [HO]; · iexact HO
    iexact HaS1
  iintro ⟨⟨%W₄, HO⟩, HzS1, HS1⟩
  simp only [k0_part6_eq_skeleton]; unfold k0_part6_skel
  simp only [semWaitWord, Prog.lift, Prog.bind_op, Prog.bind_ret, Prog.pure_eq_ret]
  iapply (wp_wait_recv m K c 1 W₄) $$ [HcR1 HO HaR1]
  · isplitr; · iexact HR
    isplitl [HcR1]; · iexact HcR1
    isplitl [HO]; · iexact HO
    iexact HaR1
  iintro ⟨⟨%W₅, HO⟩, HzR1, HR1⟩
  iapply (wp_wait_send m K c 2 W₅) $$ [HcS2 HO HaS2]
  · isplitr; · iexact HR
    isplitl [HcS2]; · iexact HcS2
    isplitl [HO]; · iexact HO
    iexact HaS2
  iintro ⟨⟨%W₆, HO⟩, HzS2, HS2⟩
  iapply (wp_wait_recv m K c 2 W₆) $$ [HcR2 HO HaR2]
  · isplitr; · iexact HR
    isplitl [HcR2]; · iexact HcR2
    isplitl [HO]; · iexact HO
    iexact HaR2
  iintro ⟨⟨%W₇, HO⟩, HzR2, HR2⟩
  unfold sendPay recvPay
  icases HS0 with ⟨%e0, %he0, HS0⟩
  icases HS1 with ⟨%e1, %he1, HS1⟩
  icases HS2 with ⟨%e2, %he2, HS2⟩
  icases HR0 with ⟨%r1, %hr1, HR0⟩
  icases HR1 with ⟨%r2, %hr2, HR1⟩
  icases HR2 with ⟨%r3, %hr3, HR2⟩
  ihave Hc0 := (slot_thirds c e0 e1 e2) $$ [HS0 HS1 HS2]
  · isplitl [HS0]; · iexact HS0
    isplitl [HS1] <;> iassumption
  ihave Hc := (comm_join c ![e0, r1, r2, r3]) $$ [Hc0 HR0 HR1 HR2]
  · isplitl [Hc0]; · iexact Hc0
    isplitl [HR0]; · iexact HR0
    isplitl [HR1]; · iexact HR1
    iexact HR2
  icases Hc with ⟨%g, %hg, Hc⟩
  have hall : ∀ k, SlotHas k g (sLoc m (from_ k c)) (lLoc m (from_ k c)) := fun k => by
    fin_cases k
    exacts [slotHas_congr he0 (hg 0), slotHas_congr hr1 (hg 1), slotHas_congr hr2 (hg 2), slotHas_congr hr3 (hg 3)]
  iapply (wp_load 𝒱₀ (c : Thread nD τ) none Set.univ (m := cM) (Finset.subset_univ _)) $$ Hc; iintro Hc
  iapply (wp_load 𝒱₀ (c : Thread nD τ) none Set.univ (m := cM) (Finset.subset_univ _)) $$ Hc; iintro Hc
  unfold owns
  icases Ho with ⟨%fo, %ho, Ho⟩
  iapply (wp_load 𝒱₀ (c : Thread nD τ) none Set.univ (m := M4) (View.setOn_subset_set _ _)) $$ Ho; iintro Ho
  iapply (wp_store 𝒱₀ (c : Thread nD τ) none Set.univ (m := M4) (r := Rect.unit (s := S512) ![0] S512.size inb_S512_S512_0) (Mk := Finset.univ) (M4.setOn_access_subset _ _)) $$ Ho; iintro Ho
  rw [wp_ret]; imodintro
  iapply Hk
  unfold Φ₈ laneZ
  isplitl [HzB HzS0 HzR0 HzS1 HzR1 HzS2 HzR2 Hid Hs Hl Hc]
  · isplitl [HzB]; · iexact HzB
    isplitl [HzS0 HzR0 HzS1 HzR1 HzS2 HzR2]
    · isplitl [HzS0 HzR0]
      · isplitl [HzS0] <;> iassumption
      isplitl [HzS1 HzR1]
      · isplitl [HzS1] <;> iassumption
      · isplitl [HzS2] <;> iassumption
    isplitl [Hid]; · iexact Hid
    isplitl [Hs]; · iexact Hs
    isplitl [Hl]; · iexact Hl
    iexists g; iexact Hc
  isplitl [HO]; · iexists _; iexact HO
  isplitl [Hx Hw Hla]
  · isplitl [Hx]; · iexact Hx
    isplitl [Hw] <;> iassumption
  iexists _
  isplitr
  · ipureintro
    exact (read_write_out M4 fo _).trans
      (congrArg₂ (fun a b => k0_pay3 (k0_pay6 a) (k0_pay7 b)) (read_gS m c g hall) (read_gL m c g hall))
  iexact Ho

end Points

end Cert.RingKernelIdeal

end
-- ==== Proof.ObligKernelIdeal.lean ====
/-
The body obligation of `KernelIdeal`'s pipeline: the three kinds of grid point put together.
-/
module

public import proofs.«01_k».proof.Proof.LastKernelIdeal

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the input buffers hold -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

theorem idle_earlier (t : Fin cfg0.N) (h : t.val ≠ 7) : cfg0.idle 3 (cfg0.grid.coords t) = true := by
  show (!(k0_cond2 (grid0.coords t) == 1#1)) = true
  rw [Bool.not_eq_true', beq_eq_false_iff_ne]; exact cond2_earlier t h
theorem idle_last (t : Fin cfg0.N) (h : t.val = 7) : cfg0.idle 3 (cfg0.grid.coords t) = false := by
  show (!(k0_cond2 (grid0.coords t) == 1#1)) = false
  rw [cond2_last t h]; rfl
theorem flush_earlier (t : Fin cfg0.N) (h : t.val ≠ 7) : (cfg0.win 3).flush t = false := by
  rw [Bool.eq_false_iff]; intro hf
  have h8 : t.val < 8 := t.isLt
  have := (flush0_3 t).mp hf; omega

theorem owes_in (c : Dev nD) (t : Fin (cfg0.N + 1)) {n : ℕ} (hn : t.val = n) :
    (dats m 0 c).owesAt () t ⊢ iprop(∃ W, owes (c : Thread nD τ) (owedAt c n) W) := by
  subst hn
  unfold Dat.owesAt Pipeline.owesWithin
  iintro ⟨%W, -, H⟩; iexists W; iexact H
theorem owes_out (c : Dev nD) (t : Fin (cfg0.N + 1)) {n : ℕ} (hn : t.val = n) :
    iprop(∃ W, owes (c : Thread nD τ) (owedAt c n) W) ⊢ (dats m 0 c).owesAt () t := by
  subst hn
  unfold Dat.owesAt Pipeline.owesWithin
  iintro ⟨%W, H⟩; iexists W
  isplitr; · ipureintro; exact fun _ _ => Or.inl trivial
  iexact H

/-- What a point starts from, and what it leaves, `R` being what it leaves of the result's buffer. -/
def obPre (c : Dev nD) (t : Fin cfg0.N) : sProp 𝕄 :=
  iprop(phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def obPost (c : Dev nD) (t : Fin cfg0.N) (R : sProp 𝕄) : sProp 𝕄 :=
  iprop(phi m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t) ∗ R)

theorem obPre_ins (c : Dev nD) (t : Fin cfg0.N) :
    obPre m c t ⊢ iprop(phi m c t.val ∗ (∃ W, owes (c : Thread nD τ) (owedAt c t.val) W) ∗ ins m c t (st0_0 t) (st0_1 t) (st0_2 t)
      ∗ (∃ d, owns (c : Thread nD τ) (st0_3 t) fullShare ((dats m 0 c).before 3 t d))) := by
  unfold obPre ins xB wB lB
  iintro ⟨HΦ, HO, ⟨%d0, H0⟩, ⟨%d1, H1⟩, ⟨%d2, H2⟩, H3⟩
  rw [before_0, before_1, before_2]
  isplitl [HΦ]; · iexact HΦ
  isplitl [HO]; · iapply (owes_in m c t.castSucc rfl); iexact HO
  isplitl [H0 H1 H2]
  · isplitl [H0]; · iexact H0
    isplitl [H1] <;> iassumption
  iexact H3

theorem ins_obPost (c : Dev nD) (t : Fin cfg0.N) (R : sProp 𝕄) :
    iprop(phi m c (t.val + 1) ∗ (∃ W, owes (c : Thread nD τ) (owedAt c (t.val + 1)) W) ∗ ins m c t (st0_0 t) (st0_1 t) (st0_2 t) ∗ R) ⊢ obPost m c t R := by
  unfold obPost ins xB wB lB
  iintro ⟨HΦ, HO, ⟨H0, H1, H2⟩, H3⟩
  isplitl [HΦ]; · iexact HΦ
  isplitl [HO]; · iapply (owes_out m c t.succ (n := t.val + 1) rfl); iexact HO
  isplitl [H0]; · iexact H0
  isplitl [H1]; · iexact H1
  isplitl [H2] <;> iassumption

theorem phi_first (c : Dev nD) : phi m c 0 = Φ₀ m c := if_pos rfl
theorem phi_between (c : Dev nD) {n : ℕ} (h0 : n ≠ 0) (h8 : n < 8) : phi m c n = Φmid m c n := (if_neg h0).trans (if_pos h8)
theorem phi_last (c : Dev nD) : phi m c 8 = Φ₈ m c := (if_neg (by decide)).trans (if_neg (by decide))
theorem owed_first (c : Dev nD) : owedAt c 0 = O₆ c := if_pos rfl
theorem owed_between (c : Dev nD) {n : ℕ} (h0 : n ≠ 0) (h8 : n < 8) : owedAt c n = O₃ c := (if_neg h0).trans (if_pos h8)
theorem owed_last (c : Dev nD) : owedAt c 8 = 0 := (if_neg (by decide)).trans (if_neg (by decide))

theorem ob_first (c : Dev nD) (t : Fin cfg0.N) (h : t.val = 0) (R : sProp 𝕄)
    (hR : (iprop(∃ d, owns (c : Thread nD τ) (st0_3 t) fullShare ((dats m 0 c).before 3 t d)) : sProp 𝕄) ⊢ R) :
    obPre m c t ⊢ wp frame (wpE (defs₀ (F := F)) 𝒱₀ (c : Thread nD τ) none) Set.univ (bodyAt0 t) fun _ => obPost m c t R := by
  refine (obPre_ins m c t).trans ?_
  have hp : ∀ R, _ := ins_obPost m c t
  rw [h] at hp ⊢
  rw [phi_between m c (n := 0 + 1) (by decide) (by decide), owed_between c (n := 0 + 1) (by decide) (by decide)] at hp
  rw [phi_first, owed_first]
  iintro ⟨HΦ, HO, Hi, H3⟩
  iapply (body_first m c t (Q := fun _ => obPost m c t R) h) $$ [HΦ HO Hi]
  · isplitl [HΦ]; · iexact HΦ
    isplitl [HO] <;> iassumption
  iintro ⟨HΦ, HO, Hi⟩
  iapply (hp R)
  isplitl [HΦ]; · iexact HΦ
  isplitl [HO]; · iexact HO
  isplitl [Hi]; · iexact Hi
  iapply hR; iexact H3

theorem ob_last (c : Dev nD) (t : Fin cfg0.N) (h : t.val = 7) :
    obPre m c t ⊢ wp frame (wpE (defs₀ (F := F)) 𝒱₀ (c : Thread nD τ) none) Set.univ (bodyAt0 t)
      fun _ => obPost m c t (owns (c : Thread nD τ) (st0_3 t) fullShare (outAt m c)) := by
  refine (obPre_ins m c t).trans ?_
  have hp : ∀ R, _ := ins_obPost m c t
  rw [h] at hp ⊢
  rw [show 7 + 1 = 8 from rfl, phi_last, owed_last] at hp
  rw [phi_between m c (by decide) (by decide), owed_between c (by decide) (by decide)]
  iintro ⟨HΦ, HO, Hi, ⟨%d, H3⟩⟩
  iapply (body_last m c t (Q := fun _ => obPost m c t (owns (c : Thread nD τ) (st0_3 t) fullShare (outAt m c))) h) $$ [HΦ HO Hi H3]
  · isplitl [HΦ]; · iexact HΦ
    isplitl [HO]; · iexact HO
    isplitl [Hi]; · iexact Hi
    iexists _; iexact H3
  iintro ⟨HΦ, HO, Hi, H3⟩
  iapply (hp _)
  isplitl [HΦ]; · iexact HΦ
  isplitl [HO]; · iexact HO
  isplitl [Hi] <;> iassumption

theorem ob_mid (c : Dev nD) (t : Fin cfg0.N) (h0 : t.val ≠ 0) (h7 : t.val ≠ 7) (R : sProp 𝕄)
    (hR : (iprop(∃ d, owns (c : Thread nD τ) (st0_3 t) fullShare ((dats m 0 c).before 3 t d)) : sProp 𝕄) ⊢ R) :
    obPre m c t ⊢ wp frame (wpE (defs₀ (F := F)) 𝒱₀ (c : Thread nD τ) none) Set.univ (bodyAt0 t) fun _ => obPost m c t R := by
  have h8 : t.val < 8 := t.isLt
  refine (obPre_ins m c t).trans ?_
  have hp : ∀ R, _ := ins_obPost m c t
  rw [phi_between m c (n := t.val + 1) (by omega) (by omega), owed_between c (n := t.val + 1) (by omega) (by omega)] at hp
  rw [phi_between m c h0 h8, owed_between c h0 h8]
  iintro ⟨HΦ, HO, Hi, H3⟩
  iapply (body_mid m c t (Q := fun _ => obPost m c t R) h0 h7) $$ [HΦ Hi]
  · isplitl [HΦ] <;> iassumption
  iintro ⟨HΦ, Hi⟩
  iapply (hp R)
  isplitl [HΦ]; · iexact HΦ
  isplitl [HO]; · iexact HO
  isplitl [Hi]; · iexact Hi
  iapply hR; iexact H3

/-- The body obligation on device `c`. -/
theorem body_obligation (c : Dev nD) : BodyObligation (dats m 0 c) (defs₀ (F := F)) 𝒱₀ () Set.univ := fun t => by
  rw [bigSep_W0, bigSep_W0]
  by_cases h7 : t.val = 7
  · rw [idle_last t h7]
    exact ob_last m c t h7
  rw [idle_earlier t h7, flush_earlier t h7]
  by_cases h0 : t.val = 0
  · exact ob_first m c t h0 _ (Entails.refl _)
  · exact ob_mid m c t h0 h7 _ (Entails.refl _)

end Cert.RingKernelIdeal

end
-- ==== Proof.LaunchKernelIdeal.lean ====
/-
The launch of `KernelIdeal`: the invariants of the sixteen devices' semaphores, the tokens dealt around the mesh, and the
run of the whole module.
-/
module

public import proofs.«01_k».proof.Proof.ObligKernelIdeal
public import Idealize.ShloMosaic.Lib.Pipeline.CollectiveSegs

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ρ : Dev nD → PrngReg) (m : (ℓ : Loc nD τ sig) → Buf (Elt F) ℓ)

/-! ## The launch -/

/-- The eight semaphores of the kernel's two semaphore arrays. -/
abbrev osem (j : Fin 8) : SemLoc sig := .dma (⟨5 + j.val, Nat.lt_of_lt_of_le (Nat.add_lt_add_left j.isLt 5) (by decide)⟩ : Fin 13)

theorem ownSemFacts : Pipeline.OwnSemFacts cfg0.spec osem := by decide

theorem share_eq (c : Dev nD) (w : Fin cfg0.W) : (dats m 0 c).share w = fullShare := by unfold Dat.share; split <;> rfl

def ringCells : Finset (GSem nD τ sig) := Finset.univ.map ⟨kcell, kcell_injective⟩

/-- The cell and the duty of a device's token: of its `k`-th exchange the barrier's, the send's or the receive's. -/
def tokAt (c : Dev nD) (k q : Fin 3) : GSem nD τ sig × ℕ × Fin 3 :=
  match q with
  | 0 => (barCell c, 0, op k) | 1 => (sendCell c k, 0, 0) | 2 => (recvCell c k, 0, 0)

/-- The exchange and the kind of a token, read back from it. -/
def tokTag (x : GSem nD τ sig × ℕ × Fin 3) : Option (Dev nD × Fin 3 × Fin 3) :=
  match tag x.1.2 with
  | some 0 => some (x.1.1.1, op x.2.2, 0)
  | some 1 => some (x.1.1.1, 0, 1) | some 2 => some (x.1.1.1, 1, 1) | some 3 => some (x.1.1.1, 2, 1)
  | some 4 => some (x.1.1.1, 0, 2) | some 5 => some (x.1.1.1, 1, 2) | some 6 => some (x.1.1.1, 2, 2)
  | none => none

theorem tokTag_tokAt (c : Dev nD) (k q : Fin 3) : tokTag (tokAt c k q) = some (c, k, q) := by
  fin_cases k <;> fin_cases q <;> rfl

abbrev tokOf (x : Dev nD × Fin 3 × Fin 3) : GSem nD τ sig × ℕ × Fin 3 := tokAt x.1 x.2.1 x.2.2
theorem tokOf_injective : Function.Injective tokOf := fun x y h =>
  Option.some.inj ((tokTag_tokAt x.1 x.2.1 x.2.2).symm.trans ((congrArg tokTag h).trans (tokTag_tokAt y.1 y.2.1 y.2.2)))
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of device `c`'s own cells in its `k`-th exchange. -/
def ownToks (c : Dev nD) (k : Fin 3) : sProp 𝕄 :=
  iprop(dutyTok EX (barCell c) 0 (op k) ∗ dutyTok EX (sendCell c k) 0 0 ∗ dutyTok EX (recvCell c k) 0 0)
/-- The tokens that device `c` pays with in its `k`-th exchange. -/
def payToks (c : Dev nD) (k : Fin 3) : sProp 𝕄 :=
  iprop(barTok c k ∗ dutyTok EX (sendCell c k) 0 0 ∗ dutyTok EX (recvCell (sh k c) k) 0 0)

/-- What the launch deals device `c`, and what the global step makes of it. -/
def G (c : Dev nD) : sProp 𝕄 :=
  iprop((bigSep Finset.univ fun j : Fin 7 => roundState EX (sched m) (kcell (c, j)) 0)
    ∗ (bigSep Finset.univ fun j : Fin 7 => iprop(atPos EX (kcell (c, j)) 0 ∅ 0 ∗ reached EX (kcell (c, j)) 0))
    ∗ bigSep Finset.univ fun k : Fin 3 => ownToks c k)
def linear (c : Dev nD) : sProp 𝕄 :=
  iprop((bigSep Finset.univ fun j : Fin 7 => atPos EX (kcell (c, j)) 0 ∅ 0) ∗ (bigSep Finset.univ fun k : Fin 3 => payToks c k) ∗ idles c)
def G' (c : Dev nD) : sProp 𝕄 := iprop(∃ K, records m K ∗ linear c)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_ring : BI.own (EX (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 7 => Φ (kcell (c, j)) := by
    unfold ringCells; rw [bigSep_map, bigSep_univ_prod]; rfl
  have hT : bigSep ringToks (fun x => (dutyTok EX x.1 x.2.1 x.2.2 : sProp 𝕄)) = bigSep Finset.univ fun c : Dev nD => bigSep Finset.univ fun k : Fin 3 => ownToks c k := by
    unfold ringToks; rw [bigSep_map, bigSep_univ_prod]
    refine bigSep_congr fun c _ => ?_
    rw [bigSep_univ_prod]
    refine bigSep_congr fun k _ => ?_
    rw [bigSep_three]; rfl
  iintro HX
  imod (Rounds.fund EX (sched m) ringCells ringToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma idleQ₁) 0 ∗ semVal (sendCell c 0) 0 ∗ semVal (sendCell c 1) 0 ∗ semVal (sendCell c 2) 0
        ∗ semVal ((c : Thread nD τ), SemLoc.dma idleQ₂) 0 ∗ semVal (recvCell c 0) 0 ∗ semVal (recvCell c 1) 0 ∗ semVal (recvCell c 2) 0) := by
  rw [Pipeline.ownSems0_eq_of_list c osem [0, 1, 2, 3, 4, 5, 6, 7] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero are the seven of the exchange and the two idle ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 7 => semVal (kcell (c, j)) 0) ∗ idles c) : sProp 𝕄) := by
  rw [ownSems0_eq, unscopedSems0_eq, bigSep_seven]
  unfold idles
  iintro ⟨⟨I1, S0, S1, S2, I2, R0, R1, R2⟩, HB⟩
  isplitl [HB S0 S1 S2 R0 R1 R2]
  · isplitl [HB]; · iexact HB
    isplitl [S0]; · iexact S0
    isplitl [S1]; · iexact S1
    isplitl [S2]; · iexact S2
    isplitl [R0]; · iexact R0
    isplitl [R1]; · iexact R1
    iexact R2
  isplitl [I1] <;> iassumption

/-- What one device has once its cells' invariants are made. -/
def made (c : Dev nD) : sProp 𝕄 :=
  iprop((bigSep Finset.univ fun j : Fin 7 => iprop(∃ κ : ℕ, cellInv EX (sched m) κ (kcell (c, j))))
    ∗ (bigSep Finset.univ fun j : Fin 7 => iprop(atPos EX (kcell (c, j)) 0 ∅ 0 ∗ reached EX (kcell (c, j)) 0))
    ∗ (bigSep Finset.univ fun k : Fin 3 => ownToks c k) ∗ idles c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun j : Fin 7 => semVal (kcell (c, j)) 0) ∗ bigSep Finset.univ fun j : Fin 7 => roundState EX (sched m) (kcell (c, j)) 0)
      ⊢ (|={Set.univ}=> bigSep Finset.univ fun j : Fin 7 => iprop(∃ κ : ℕ, cellInv EX (sched m) κ (kcell (c, j))) : sProp 𝕄) from by
        rw [← bigSep_sep']
        exact (bigSep_mono fun j _ => (Rounds.body_intro EX (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-- The tokens dealt around: of every exchange the barrier's and the receive's token go to the device that pays them. -/
theorem toks_around : (bigSep Finset.univ fun c : Dev nD => bigSep Finset.univ fun k : Fin 3 => (ownToks c k : sProp 𝕄))
    ⊢ bigSep Finset.univ fun c : Dev nD => bigSep Finset.univ fun k : Fin 3 => payToks c k := by
  have one (k : Fin 3) : (bigSep Finset.univ fun c : Dev nD => (ownToks c k : sProp 𝕄)) ⊢ bigSep Finset.univ fun c : Dev nD => payToks c k := by
    unfold ownToks payToks
    rw [bigSep_sep', bigSep_sep', bigSep_sep', bigSep_sep',
      bigSep_univ_equiv (around k) (fun c : Dev nD => (dutyTok EX (barCell c) 0 (op k) : sProp 𝕄)),
      bigSep_univ_equiv (around k) (fun c : Dev nD => (dutyTok EX (recvCell c k) 0 0 : sProp 𝕄))]
    exact Entails.of_eq rfl
  simp only [bigSep_three]
  rw [bigSep_sep', bigSep_sep', bigSep_sep', bigSep_sep']
  iintro ⟨H0, H1, H2⟩
  isplitl [H0]; · iapply (one 0); iexact H0
  isplitl [H1]; · iapply (one 1); iexact H1
  iapply (one 2); iexact H2

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => made m c) ⊢ bigSep Finset.univ (G' m) := by
  unfold made
  rw [bigSep_sep', bigSep_sep', bigSep_sep', ← bigSep_univ_prod (fun cj : Dev nD × Fin 7 => iprop(∃ κ : ℕ, cellInv EX (sched m) κ (kcell cj))),
    bigSep_congr (s := Finset.univ) (fun (c : Dev nD) _ => bigSep_sep' Finset.univ (fun j : Fin 7 => (atPos EX (kcell (c, j)) 0 ∅ 0 : sProp 𝕄)) (fun j => reached EX (kcell (c, j)) 0)),
    bigSep_sep', ← bigSep_univ_prod (fun cj : Dev nD × Fin 7 => (reached EX (kcell cj) 0 : sProp 𝕄))]
  iintro ⟨HI, ⟨Hat, #HR⟩, Htok, Hidle⟩
  ihave HK := (BI.bigSep_exists_pi Finset.univ (fun (cj : Dev nD × Fin 7) (κ : ℕ) => (cellInv EX (sched m) κ (kcell cj) : sProp 𝕄))) $$ HI
  icases HK with ⟨%K, #HI⟩
  ihave Htk := (toks_around (F := F)) $$ Htok
  iapply (bigSep_beside (R := records m K) (Φ := linear) fun c _ => show iprop(records m K ∗ linear c) ⊢ G' m c from by
    unfold G'; iintro H; iexists K; iexact H)
  isplitr
  · unfold records; isplitl; · iexact HI
    iexact HR
  · unfold linear
    rw [bigSep_sep', bigSep_sep']
    isplitl [Hat]; · iexact Hat
    isplitl [Htk]; · iexact Htk
    iexact Hidle

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {k q : Fin 3} : Iff (recvCell a k = recvCell b q) (a = b ∧ k = q) :=
  ⟨fun h => ⟨congrArg (fun g : GSem nD τ sig => g.1.1) h, by
      rw [← kcell_recv, ← kcell_recv] at h
      have := congrArg (fun x : Dev nD × Fin 7 => x.2.val) (kcell_injective h)
      exact Fin.ext (Nat.add_right_cancel this)⟩,
    fun h => by rw [h.1, h.2]⟩
theorem bar_ne_recv {a b : Dev nD} {k : Fin 3} : barCell a ≠ recvCell b k := fun h => by cases congrArg Prod.snd h

/-- What device `d` owes device `c`'s barrier cell, and its `k`-th receive cell. -/
theorem owed_bar (d c : Dev nD) : O₆ d (barCell c) () =
    (if d = sh (op 2) c then 1 else 0) + (if d = sh (op 1) c then 1 else 0) + (if d = sh (op 0) c then 1 else 0) := by
  unfold O₆ O₅ O₄ O₃ O₂ O₁
  simp only [Pi.add_apply, Finsupp.add_apply, tallyAt_apply, bar_ne_recv, bar_eq_iff, and_true, false_and, if_false, Nat.zero_add]
  simp only [eq_comm (a := c), sh_eq_iff]
theorem owed_recv (d c : Dev nD) (k : Fin 3) : O₆ d (recvCell c k) () = if d = sh (op k) c then N else 0 := by
  unfold O₆ O₅ O₄ O₃ O₂ O₁
  simp only [Pi.add_apply, Finsupp.add_apply, tallyAt_apply, Ne.symm bar_ne_recv, recv_eq_iff, and_true, false_and, if_false, Nat.add_zero]
  simp only [eq_comm (a := c), sh_eq_iff]
  fin_cases k <;> simp

theorem launch_bar (c : Dev nD) :
    tallyOn (barCell c) (launchCredit (Pipeline.owing O₆) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem launch_recv (c : Dev nD) (k : Fin 3) :
    tallyOn (recvCell c k) (launchCredit (Pipeline.owing O₆) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (sh (op k) c) fun _ => N,
    if_pos (Finset.mem_univ _)]

omit [FloatOps F] in
theorem creds (c : Dev nD) : (Pipeline.launchCred O₆ c : sProp 𝕄) ⊢ iprop(cred (tallyAt (barCell c) () 3)
    ∗ cred (tallyAt (recvCell c 0) () N) ∗ cred (tallyAt (recvCell c 1) () N) ∗ cred (tallyAt (recvCell c 2) () N)) := by
  unfold Pipeline.launchCred
  refine (BI.bigSep_subset (Finset.subset_univ (Finset.univ.map ⟨csem, csem_injective⟩))).trans ?_
  rw [bigSep_map, bigSep_seven, ← launch_bar, ← launch_recv c 0, ← launch_recv c 1, ← launch_recv c 2]
  have drop (A B C D E H I : sProp 𝕄) : iprop(A ∗ B ∗ C ∗ D ∗ E ∗ H ∗ I) ⊢ iprop(A ∗ E ∗ H ∗ I) := by
    iintro ⟨HA, -, -, -, H⟩
    isplitl [HA] <;> iassumption
  exact drop _ _ _ _ _ _ _

/-! ## The run's side conditions -/

/-- What device `c` enters the pipeline with, its scratch buffers apart. -/
def start (c : Dev nD) : sProp 𝕄 := iprop((∃ K, base m K c) ∗ (barTok c 0 ∗ barTok c 1 ∗ barTok c 2))

theorem start_intro (c : Dev nD) :
    iprop(Pipeline.unscopedRestP Pipeline.Prefetch.none cfg0.spec c (fun b => m ((c : Thread nD τ).loc b)) ∗ levAts L lv
        ∗ Pipeline.launchCred O₆ c ∗ prngReg c (ρ c) ∗ G' m c)
      ⊢ |={Set.univ}=> iprop(start m c ∗ emp) := by
  unfold G' linear
  rw [bigSep_seven, bigSep_three]
  unfold payToks
  iintro ⟨-, Hlev, Hcr, -, ⟨%K, #HR, ⟨A0, A1, A2, A3, A4, A5, A6⟩, ⟨⟨B0, S0, R0⟩, ⟨B1, S1, R1⟩, ⟨B2, S2, R2⟩⟩, Hidle⟩⟩
  ihave Hc := (creds (F := F) c) $$ Hcr
  icases Hc with ⟨HB, C0, C1, C2⟩
  imodintro
  unfold start base lane
  isplitl
  · isplitr [B0 B1 B2]
    · iexists K
      isplitr; · iexact HR
      isplitl [Hlev]; · iexact Hlev
      isplitl [A0]; · iexact A0
      isplitl [HB]; · iexact HB
      isplitr [Hidle]
      · isplitl [A1 A4 S0 R0 C0]
        · isplitl [A1]; · iexact A1
          isplitl [A4]; · iexact A4
          isplitl [S0]; · iexact S0
          isplitl [R0]; · iexact R0
          iexact C0
        isplitl [A2 A5 S1 R1 C1]
        · isplitl [A2]; · iexact A2
          isplitl [A5]; · iexact A5
          isplitl [S1]; · iexact S1
          isplitl [R1]; · iexact R1
          iexact C1
        · isplitl [A3]; · iexact A3
          isplitl [A6]; · iexact A6
          isplitl [S2]; · iexact S2
          isplitl [R2]; · iexact R2
          iexact C2
      iexact Hidle
    isplitl [B0]; · iexact B0
    isplitl [B1]; · iexact B1
    iexact B2
  · iempintro

/-- A whole table before the first point; a table after the last one, whatever it holds. -/
theorem tab_in_s (c : Dev nD) (T : Vec F S8x512 .f32) (f) :
    (((c : Thread nD τ).loc cc0_scratch0 ↦{fullShare} f : sProp 𝕄)) ⊢ tabPts sM T 0 c := by
  unfold tabPts
  rw [View.set_whole]
  iintro H
  iexists f
  isplitr
  · ipureintro; intro j hj; exact absurd hj (Nat.not_lt_zero _)
  iexact H
theorem tab_out_s (c : Dev nD) (T : Vec F S8x512 .f32) (n : ℕ) :
    (tabPts sM T n c : sProp 𝕄) ⊢ iprop(∃ f, (c : Thread nD τ).loc cc0_scratch0 ↦{fullShare} f) := by
  unfold tabPts
  rw [View.set_whole]
  iintro ⟨%f, -, H⟩
  iexists f
  iexact H

theorem tab_in_t (c : Dev nD) (T : Vec F S8x512 .f32) (f) :
    (((c : Thread nD τ).loc cc0_scratch1 ↦{fullShare} f : sProp 𝕄)) ⊢ tabPts tM T 0 c := by
  unfold tabPts
  rw [View.set_whole]
  iintro H
  iexists f
  isplitr
  · ipureintro; intro j hj; exact absurd hj (Nat.not_lt_zero _)
  iexact H
theorem tab_out_t (c : Dev nD) (T : Vec F S8x512 .f32) (n : ℕ) :
    (tabPts tM T n c : sProp 𝕄) ⊢ iprop(∃ f, (c : Thread nD τ).loc cc0_scratch1 ↦{fullShare} f) := by
  unfold tabPts
  rw [View.set_whole]
  iintro ⟨%f, -, H⟩
  iexists f
  iexact H

theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from phi_first m c, scopedRest0_eq]
  unfold Φ₀ start
  iintro ⟨⟨Hb, Ht⟩, -, ⟨%f0, H0⟩, ⟨%f1, H1⟩, H2⟩
  isplitl [Hb]; · iexact Hb
  isplitl [Ht]; · iexact Ht
  isplitl [H0]; · iapply (tab_in_s c (sTab m c) f0); iexact H0
  isplitl [H1]; · iapply (tab_in_t c (lTab m c) f1); iexact H1
  iexact H2

theorem phi_end (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₈ m c from phi_last m c, scopedRest0_eq, ownSems0_eq, unscopedSems0_eq]
  unfold Φ₈ laneZ idles
  iintro ⟨HB, ⟨⟨S0, R0⟩, ⟨S1, R1⟩, ⟨S2, R2⟩⟩, ⟨I1, I2⟩, T0, T1, H2⟩
  isplitl [HB]; · iexact HB
  isplitr [T0 T1 H2]
  · isplitl [I1]; · iexact I1
    isplitl [S0]; · iexact S0
    isplitl [S1]; · iexact S1
    isplitl [S2]; · iexact S2
    isplitl [I2]; · iexact I2
    isplitl [R0]; · iexact R0
    isplitl [R1]; · iexact R1
    iexact R2
  isplitl [T0]; · iapply (tab_out_s c (sTab m c) 8); iexact T0
  isplitl [T1]; · iapply (tab_out_t c (lTab m c) 8); iexact T1
  iexact H2

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) t.val

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of the sixteen kernels terminates, with each device's arrays at `finalA` and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₆) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro ρ m) (hin := phi_start m) (hout := phi_end m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingKernelIdeal

end
-- ==== Proof.EndKernelIdeal.lean ====
/-
What `KernelIdeal`'s run leaves: the arguments as they were, and the result array at each device's `outAt`.
-/
module

public import proofs.«01_k».proof.Proof.LaunchKernelIdeal
public import Idealize.ShloMosaic.Lib.Pipeline.ValueKit

@[expose] public section

noncomputable section

namespace Cert.RingKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ρ : Dev nD → PrngReg) (m : (ℓ : Loc nD τ sig) → Buf (Elt F) ℓ)

/-- An argument array after the run holds what it held. -/
theorem finalA_in (c : Dev nD) (w : Fin cfg0.W) (h : (cfg0.win w).isOut = false) :
    finalA m c w = m ((cfg0.win w).arr.view.loc (c : Thread nD τ)) := by
  unfold finalA
  rw [(dats m 0 c).arrAt_in w h _]; rfl

/-- The result array is written back once, whole, after the last point. -/
theorem finalA_out (c : Dev nD) : finalA m c 3 = outAt m c := by
  unfold finalA
  exact (dats m 0 c).arrAt_eq_of_after_last 3 ⟨7, by decide⟩ (by decide +kernel) _ fun j => rfl

/-- The run, read at the arguments and the result. -/
theorem run_read : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c 3).trans (finalA_out m c), (h.1 c 0).trans (finalA_in m c 0 rfl),
      (h.1 c 1).trans (finalA_in m c 1 rfl), (h.1 c 2).trans (finalA_in m c 2 rfl)⟩, h.2⟩) (run_main ρ m)

/-- … and at the arguments alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_read ρ m)

end Cert.RingKernelIdeal

end
-- ==== Proof.Logs.lean ====
/-
The arithmetic of a row's loss over real numbers: the logarithm of a sum of exponentials is the same with any number taken
out of the exponents, a sum over the vocabulary is the sum of its parts by device, grid point and column, and of the parts
of a masked sum only the one that holds the label counts. Then the same values as extended reals.
-/
module

public import Idealize.ShloMosaic.PureOps.Ideal
public import Idealize.ShloMosaic.Lib.Pipeline.ValueKit

@[expose] public section

noncomputable section

namespace Cert.Logs

open Idealize.ShloMosaic

/-! ## Real values among the extended ones -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem log_of_pos (r : ℝ) (h : 0 < r) : Ideal.log (r : EReal) = (Real.log r : EReal) := by
  rw [Ideal.log_coe, if_neg (not_le.mpr h)]

/-- A value whose absolute value lies under every infinity is a real number. -/
theorem real_of_abs_lt (x : EReal) (h : max x (-x) < ⊤) : x = ((x.toReal : ℝ) : EReal) := by
  refine (EReal.coe_toReal (fun e => ?_) (fun e => ?_)).symm
  · rw [e] at h; simp at h
  · rw [e] at h; simp at h

/-- The largest of a nonempty set of real numbers, started from minus infinity, is real. -/
theorem fold_max_real {ι : Type*} (s : Finset ι) (hs : s.Nonempty) (f : ι → EReal) (hf : ∀ i ∈ s, ∃ r : ℝ, f i = (r : EReal)) :
    ∃ r : ℝ, s.fold max ⊥ f = (r : EReal) := by
  classical
  induction hs using Finset.Nonempty.cons_induction with
  | singleton a =>
    obtain ⟨r, hr⟩ := hf a (Finset.mem_singleton_self a)
    exact ⟨r, by rw [Finset.fold_singleton, hr]; exact max_eq_left bot_le⟩
  | cons a s ha hs ih =>
    obtain ⟨r, hr⟩ := hf a (Finset.mem_cons_self a s)
    obtain ⟨q, hq⟩ := ih fun i hi => hf i (Finset.mem_cons_of_mem hi)
    exact ⟨max r q, by rw [Finset.fold_cons, hr, hq]; exact (EReal.coe_strictMono.monotone.map_max).symm⟩

/-! ## The logarithm of a sum of exponentials -/

theorem shift_log_sum {ι : Type*} [Fintype ι] [Nonempty ι] (f : ι → ℝ) (a : ℝ) :
    a + Real.log (∑ v, Real.exp (f v - a)) = Real.log (∑ v, Real.exp (f v)) := by
  have hpos : 0 < ∑ v, Real.exp (f v) := Finset.sum_pos (fun v _ => Real.exp_pos _) Finset.univ_nonempty
  have e : ∑ v, Real.exp (f v - a) = Real.exp (-a) * ∑ v, Real.exp (f v) := by
    rw [Finset.mul_sum]
    exact Finset.sum_congr rfl fun v _ => by rw [← Real.exp_add]; congr 1; ring
  rw [e, Real.log_mul (Real.exp_pos _).ne' hpos.ne', Real.log_exp]
  ring

/-! ## The columns of the vocabulary -/

/-- Column `j` of grid point `i` of the ring member at place `z`. -/
def col (z : Fin 4) (i : Fin 8) (j : Fin 1024) : Fin 32768 := ⟨8192 * z.val + 1024 * i.val + j.val, by omega⟩

/-- The ring members, each at its own place, with their points and columns run once over the vocabulary. -/
theorem sum_cols {M : Type*} [AddCommMonoid M] (z : Fin 4 → Fin 4) (hz : Function.Injective z) (f : Fin 32768 → M) :
    ∑ k : Fin 4, ∑ i : Fin 8, ∑ j : Fin 1024, f (col (z k) i j) = ∑ v, f v := by
  have hb : Function.Bijective (fun p : Fin 4 × Fin 8 × Fin 1024 => col (z p.1) p.2.1 p.2.2) := by
    rw [Fintype.bijective_iff_injective_and_card]
    refine ⟨?_, by simp⟩
    rintro ⟨k, i, j⟩ ⟨k', i', j'⟩ h
    have h' : 8192 * (z k).val + 1024 * i.val + j.val = 8192 * (z k').val + 1024 * i'.val + j'.val := congrArg Fin.val h
    have e1 : z k = z k' := Fin.ext (by omega)
    have e2 : i = i' := Fin.ext (by omega)
    have e3 : j = j' := Fin.ext (by omega)
    rw [hz e1, e2, e3]
  rw [← hb.sum_comp f, Fintype.sum_prod_type]
  refine Finset.sum_congr rfl fun k _ => ?_
  rw [Fintype.sum_prod_type]

/-- A sum that keeps the label's column alone. -/
theorem sum_pick (f : Fin 32768 → ℝ) (l : Fin 32768) : ∑ v, (if v = l then f v else 0) = f l := by
  rw [Finset.sum_ite_eq' Finset.univ l f, if_pos (Finset.mem_univ l)]

/-- Whether a column is the label's, told from the label with the device's and the point's first columns taken off. -/
theorem word_eq (l : BitVec 32) (hl : l.toNat < 32768) (z : Fin 4) (i : Fin 8) (j : Fin 1024) :
    Iff (BitVec.ofNat 32 j.val = l - BitVec.ofNat 32 (8192 * z.val) - BitVec.ofNat 32 (1024 * i.val)) (col z i j = ⟨l.toNat, hl⟩) := by
  rw [Fin.ext_iff]
  show Iff _ (8192 * z.val + 1024 * i.val + j.val = l.toNat)
  constructor
  · intro h
    have h2 := congrArg BitVec.toNat h
    simp only [BitVec.toNat_sub, BitVec.toNat_ofNat] at h2
    omega
  · intro h
    apply BitVec.eq_of_toNat_eq
    simp only [BitVec.toNat_sub, BitVec.toNat_ofNat]
    omega

/-! ## A row's loss -/

/-- The logit of row `r` and column `v`. -/
def logit (x : (⟨2, ![512, 1024]⟩ : Shape).Idx → ℝ) (w : (⟨2, ![1024, 32768]⟩ : Shape).Idx → ℝ) (r : Fin 512) (v : Fin 32768) : ℝ :=
  ∑ k : Fin 1024, x (ix2 r k) * w (ix2 k v)

/-- The loss of row `r` whose label is `l`: the logarithm of the sum of the exponentials of its logits, less the label's logit. -/
def loss (x : (⟨2, ![512, 1024]⟩ : Shape).Idx → ℝ) (w : (⟨2, ![1024, 32768]⟩ : Shape).Idx → ℝ) (l : Fin 32768) (r : Fin 512) : ℝ :=
  Real.log (∑ v, Real.exp (logit x w r v)) - logit x w r l

theorem sum_exp_pos (f : Fin 32768 → ℝ) : 0 < ∑ v, Real.exp (f v) :=
  Finset.sum_pos (fun v _ => Real.exp_pos _) Finset.univ_nonempty

end Cert.Logs

end
-- ==== Proof.ValueKernelIdeal.lean ====
/-
What `KernelIdeal` returns on finite arguments: on every device, each row's loss over the whole vocabulary. A device's table
of partial sums is read row by row as the sums over one grid point's columns, its own sums as those over its columns, and
what the four slots hold together as the sums over the vocabulary.
-/
module

public import proofs.«01_k».proof.Proof.RingKernelIdeal
public import proofs.«01_k».proof.Proof.Logs
public import Idealize.ShloMosaic.Lib.Pipeline.ValueKit

@[expose] public section

noncomputable section

namespace Cert.ValueKernelIdeal

open Cert.KernelIdeal Cert.KernelIdeal.Gen
open Idealize.ShloMosaic Idealize.ShloMosaic.TcCoe
open Cert.RingKernelIdeal (xB wB lB sRow lRow sTab lTab sLoc lLoc gS gL outAt from_ ptOf)
open Cert.Logs

variable (m : (ℓ : Loc nD τ sig) → Buf (Elt Ideal) ℓ)

/-! ## The blocks of a grid point -/

theorem idx0 : ∀ t : Fin grid0.N, win0_0.index t 0 = 0 ∧ win0_0.index t 1 = 0 := by decide +kernel
theorem idx1 : ∀ t : Fin grid0.N, win0_1.index t 0 = 0 ∧ win0_1.index t 1 = t.val := by decide +kernel
theorem idx2 : ∀ t : Fin grid0.N, win0_2.index t 0 = 0 := by decide +kernel

theorem xB_eq (c : Dev nD) (t : Fin cfg0.N) : xB m c t = m ((c : Thread nD τ).loc main_arg0) := by
  unfold xB
  blk_ext! [iblk, V, (idx0 t).1, (idx0 t).2]

theorem lB_eq (c : Dev nD) (t : Fin cfg0.N) : lB m c t = m ((c : Thread nD τ).loc main_arg2) := by
  unfold lB
  blk_ext! [iblk, V, idx2 t]

/-- Which of the eight points, and its column `j` among the device's. -/
def pt (t : Fin cfg0.N) : Fin 8 := ⟨t.val, lt_of_lt_of_eq t.isLt N_0⟩
def wcol (i : Fin 8) (j : Fin 1024) : Fin 8192 := ⟨1024 * i.val + j.val, by omega⟩

theorem wB_eq (c : Dev nD) (t : Fin cfg0.N) (k j : Fin 1024) :
    wB m c t (ix2 k j) = m ((c : Thread nD τ).loc main_arg1) (ix2 k (wcol (pt t) j)) := by
  unfold wB
  blk_ext [iblk, V, (idx1 t).1, (idx1 t).2]
  show t.val * 1024 + j.val = 1024 * t.val + j.val
  omega

/-! ## The values computed, at an index -/

theorem pay8_at (x : Vec Ideal S512x1024 .bf16) (w : Vec Ideal S1024x1024 .bf16) (v : Fin 1024) (r : Fin 512) :
    k0_pay8 x w (ix2 v r) = ∑ k : Fin 1024, w (ix2 k v) * x (ix2 r k) := by
  pointwise [k0_pay8]

theorem pay9_at (x : Vec Ideal S512x1024 .bf16) (w : Vec Ideal S1024x1024 .bf16) (r : Fin 512) :
    k0_pay9 x w (ix1 r) = ∑ v : Fin 1024, Ideal.exp (k0_pay8 x w (ix2 v r)) := by
  pointwise [k0_pay9]

theorem pay10_at (i : grid0.Coords) (c : Dev nD) (x : Vec Ideal S512x1024 .bf16) (w : Vec Ideal S1024x1024 .bf16)
    (l : Vec Ideal S512 .i32) (r : Fin 512) :
    k0_pay10 i c x w l (ix1 r) = ∑ v : Fin 1024, Scalar.select
      (IntOp.cmpi CmpIPredicate.eq (BitVec.ofNat 32 v.val)
        (IntOp.subi (IntOp.subi (l (ix1 r)) (Scalar.muli (Scalar.remsi (Scalar.divsi c.word 1#32) 4#32) 8192#32))
          (Scalar.muli (BitVec.ofNat 32 (i 0).val) 1024#32)))
      (k0_pay8 x w (ix2 v r)) 0 := by
  pointwise [k0_pay10]

/-- Point `i` of the grid. -/
def pnt (i : Fin 8) : Fin cfg0.N := ⟨i.val, lt_of_lt_of_eq i.isLt N_0.symm⟩

theorem sTab_at (c : Dev nD) (i : Fin 8) (r : Fin 512) : sTab m c (ix2 i r) = sRow m c (pnt i) (ix1 r) := by
  unfold sTab
  pointwise [k0_pay1]
  rfl

theorem lTab_at (c : Dev nD) (i : Fin 8) (r : Fin 512) : lTab m c (ix2 i r) = lRow m c (pnt i) (ix1 r) := by
  unfold lTab
  pointwise [k0_pay2]
  rfl

theorem sLoc_at (c : Dev nD) (r : Fin 512) : sLoc m c (RingKernelIdeal.ix3 r) = ∑ i : Fin 8, sRow m c (pnt i) (ix1 r) := by
  refine Eq.trans ?_ (Finset.sum_congr rfl fun i _ => sTab_at m c i r)
  unfold sLoc
  pointwise [k0_pay4]
  rfl

theorem lLoc_at (c : Dev nD) (r : Fin 512) : lLoc m c (RingKernelIdeal.ix3 r) = ∑ i : Fin 8, lRow m c (pnt i) (ix1 r) := by
  refine Eq.trans ?_ (Finset.sum_congr rfl fun i _ => lTab_at m c i r)
  unfold lLoc
  pointwise [k0_pay5]
  rfl

theorem out_at (c : Dev nD) (r : Fin 512) : outAt m c (ix1 r)
    = Ideal.log (∑ k : Fin 4, sLoc m (from_ k c) (RingKernelIdeal.ix3 r)) - ∑ k : Fin 4, lLoc m (from_ k c) (RingKernelIdeal.ix3 r) := by
  unfold outAt
  pointwise [k0_pay3, k0_pay6, k0_pay7]
  rfl

/-! ## The words that place a device's and a point's columns -/

/-- A device's place on its ring. -/
def place (c : Dev nD) : Fin 4 := ⟨c.val % 4, Nat.mod_lt _ (by decide)⟩

theorem place_word : ∀ c : Dev nD,
    Scalar.muli (Scalar.remsi (Scalar.divsi c.word 1#32) 4#32) 8192#32 = BitVec.ofNat 32 (8192 * (place c).val) := by decide +kernel
theorem pnt_word : ∀ i : Fin 8, Scalar.muli (BitVec.ofNat 32 ((grid0.coords (pnt i)) 0).val) 1024#32 = BitVec.ofNat 32 (1024 * i.val) := by
  decide +kernel
theorem from_injective : ∀ c : Dev nD, Function.Injective fun k : Fin 4 => place (from_ k c) := by decide +kernel

/-! ## Finite arguments -/

section Finite
variable (x : (⟨2, ![512, 1024]⟩ : Shape).Idx → ℝ) (w : (⟨2, ![1024, 32768]⟩ : Shape).Idx → ℝ) (l : (⟨1, ![512]⟩ : Shape).Idx → BitVec 32)
  (hx : ∀ c : Dev nD, ∀ j, m ((c : Thread nD τ).loc main_arg0) j = (x j : EReal))
  (hw : ∀ (c : Dev nD) (k : Fin 1024) (i : Fin 8) (j : Fin 1024),
    m ((c : Thread nD τ).loc main_arg1) (ix2 k (wcol i j)) = (w (ix2 k (col (place c) i j)) : EReal))
  (hl : ∀ c : Dev nD, m ((c : Thread nD τ).loc main_arg2) = l)
include hx hw

theorem pay8_real (c : Dev nD) (i : Fin 8) (v : Fin 1024) (r : Fin 512) :
    k0_pay8 (xB m c (pnt i)) (wB m c (pnt i)) (ix2 v r) = (logit x w r (col (place c) i v) : EReal) := by
  rw [pay8_at]
  unfold logit
  rw [← coe_sum]
  refine Finset.sum_congr rfl fun k _ => ?_
  rw [wB_eq, xB_eq, hx, mul_comm, EReal.coe_mul]
  exact congrArg _ (hw c k i v)

theorem sRow_real (c : Dev nD) (i : Fin 8) (r : Fin 512) :
    sRow m c (pnt i) (ix1 r) = ((∑ v : Fin 1024, Real.exp (logit x w r (col (place c) i v)) : ℝ) : EReal) := by
  unfold sRow
  rw [pay9_at, ← coe_sum]
  exact Finset.sum_congr rfl fun v _ => by rw [pay8_real m x w hx hw, Ideal.exp_coe]

theorem lse_real (c : Dev nD) (r : Fin 512) :
    Ideal.log (∑ k : Fin 4, sLoc m (from_ k c) (RingKernelIdeal.ix3 r)) = (Real.log (∑ v, Real.exp (logit x w r v)) : EReal) := by
  rw [← log_of_pos _ (sum_exp_pos _), ← sum_cols _ (from_injective c) fun v => Real.exp (logit x w r v), ← coe_sum]
  refine congrArg Ideal.log (Finset.sum_congr rfl fun k _ => ?_)
  rw [sLoc_at, ← coe_sum]
  exact Finset.sum_congr rfl fun i _ => sRow_real m x w hx hw _ i r

include hl

theorem lRow_real (c : Dev nD) (i : Fin 8) (r : Fin 512) (h : (l (ix1 r)).toNat < 32768) :
    lRow m c (pnt i) (ix1 r)
      = ((∑ v : Fin 1024, (if col (place c) i v = ⟨(l (ix1 r)).toNat, h⟩ then logit x w r (col (place c) i v) else 0) : ℝ) : EReal) := by
  unfold lRow
  rw [pay10_at, ← coe_sum, place_word, pnt_word]
  refine Finset.sum_congr rfl fun v _ => ?_
  rw [pay8_real m x w hx hw, lB_eq, hl]
  have e := word_eq (l (ix1 r)) h (place c) i v
  by_cases hv : col (place c) i v = ⟨(l (ix1 r)).toNat, h⟩
  · rw [if_pos hv]
    have e2 := e.mpr hv
    unfold Scalar.select IntOp.cmpi IntOp.subi
    rw [← e2]
    simp
  · rw [if_neg hv]
    have e2 := fun q => hv (e.mp q)
    unfold Scalar.select IntOp.cmpi IntOp.subi
    rw [if_neg, EReal.coe_zero]
    show BitVec.ofBool (decide _) ≠ 1#1
    rw [decide_eq_false e2]
    decide

theorem label_real (c : Dev nD) (r : Fin 512) (h : (l (ix1 r)).toNat < 32768) :
    ∑ k : Fin 4, lLoc m (from_ k c) (RingKernelIdeal.ix3 r) = (logit x w r ⟨(l (ix1 r)).toNat, h⟩ : EReal) := by
  rw [← sum_pick (logit x w r), ← sum_cols _ (from_injective c), ← coe_sum]
  refine Finset.sum_congr rfl fun k _ => ?_
  rw [lLoc_at, ← coe_sum]
  exact Finset.sum_congr rfl fun i _ => lRow_real m x w l hx hw hl _ i r h

/-- Row `r` of every device's result is the row's loss. -/
theorem out_real (c : Dev nD) (r : Fin 512) (h : (l (ix1 r)).toNat < 32768) :
    outAt m c (ix1 r) = (loss x w ⟨(l (ix1 r)).toNat, h⟩ r : EReal) := by
  rw [out_at, lse_real m x w hx hw, label_real m x w l hx hw hl c r h, ← EReal.coe_sub]
  rfl

end Finite

end Cert.ValueKernelIdeal

end
-- ==== Proof.ValueReferenceIdeal.lean ====
/-
What `ReferenceIdeal` returns on finite arguments and labels that name a column: each row's loss. The row's largest logit,
which the reference takes out of the exponents and adds again, is a real number, and any real number may be so taken out.
The label's logit is read by a gather at the row's number and the label, of which neither is wrapped nor clamped.
-/
module

public import proofs.«01_k».proof.Proof.Gen.ReferenceIdeal.Run
public import proofs.«01_k».proof.Proof.Logs
public import Idealize.ShloMosaic.Lib.Pipeline.ValueKit

@[expose] public section

noncomputable section

namespace Cert.ValueReferenceIdeal

open Cert.ReferenceIdeal Cert.ReferenceIdeal.Gen
open Idealize.ShloMosaic
open Cert.Logs

/-! ## The stages of the reference -/

/-- The logits of all rows. -/
def logits (x : FVec Ideal S512x1024 .bf16) (w : FVec Ideal S1024x32768 .bf16) : FVec Ideal S512x32768 .f32 :=
  Host.dotGeneral dot_S512x1024_S1024x32768_S512x32768_1_0_0_1_n_n none (extf .f32 x bitsLt_bf16_f32) (extf .f32 w bitsLt_bf16_f32)

/-- Each row's largest logit. -/
def top (v : FVec Ideal S512x32768 .f32) : FVec Ideal S512 .f32 :=
  Host.reduce FloatOps.maximumf v (constant S_ .f32 0xFF800000#32) reducesTo_S512x32768_S512_d1 h_S_

/-- Each row's logarithm of the sum of exponentials, with `a` taken out of the exponents. -/
def logSum (v : FVec Ideal S512x32768 .f32) (a : FVec Ideal S512 .f32) : FVec Ideal S512 .f32 :=
  shapeCast _ (addf (broadcastInDim S512x1 ![0] bcast_S512_S512x1_0 a) (Host.log (broadcastInDim S512x1 ![0] bcast_S512_S512x1_0
    (Host.reduceAdd (Host.exp (subf v (broadcastInDim S512x32768 ![0, 1] bcast_S512x1_S512x32768_0_1
      (broadcastInDim S512x1 ![0] bcast_S512_S512x1_0 a)))) (constant S_ .f32 0x00000000#32) reducesTo_S512x32768_S512_d1 h_S_))))
    shapeCasts_S512x1_S512

/-- A word below zero moved up by `n`. -/
def wrapped (n : BitVec 32) (a : IVec S512 32) : IVec S512 32 :=
  select (cmpi .slt a (broadcastInDim S512 ![] bcast_S_S512 (constantI S_ 32 0#32)))
    (addi a (broadcastInDim S512 ![] bcast_S_S512 (constantI S_ 32 n))) a

/-- The two start indices of each row. -/
def starts (l : IVec S512 32) : IVec S512x2 32 :=
  Value.fn_main_v26 (F := Ideal) (broadcastInDim S512x1 ![0] bcast_S512_S512x1_0 (wrapped 512#32 (iotaInDim S512 32 0)))
    (broadcastInDim S512x1 ![0] bcast_S512_S512x1_0 (wrapped 32768#32 l))

/-- The reference's result. -/
def result (x : FVec Ideal S512x1024 .bf16) (w : FVec Ideal S1024x32768 .bf16) (l : IVec S512 32) : FVec Ideal S512 .f32 :=
  subf (logSum (logits x w) (top (logits x w)))
    (Host.gather gather_S512x32768_S512x2_S512_n_01_n_n_01_1_11 (logits x w) (starts l))

/-! ## The stages at an index -/

theorem subf_at (a b : FVec Ideal S512 .f32) (j : S512.Idx) : subf a b j = (a j : EReal) - b j := rfl

theorem logits_at (x : FVec Ideal S512x1024 .bf16) (w : FVec Ideal S1024x32768 .bf16) (r : Fin 512) (v : Fin 32768) :
    logits x w (ix2 r v) = ∑ k : Fin 1024, x (ix2 r k) * w (ix2 k v) := by
  pointwise [logits]

theorem ofBits_neg_inf : Ideal.ofBits .f32 0xFF800000#32 = (⊥ : EReal) := by simp [Ideal.ofBits, Ideal.ieee]

theorem top_real (v : FVec Ideal S512x32768 .f32) (hv : ∀ j, ∃ q : ℝ, v j = (q : EReal)) (j : S512.Idx) :
    ∃ q : ℝ, top v j = (q : EReal) := by
  unfold top
  haveI : Std.Commutative (FloatOps.maximumf : Ideal .f32 → Ideal .f32 → Ideal .f32) := ⟨fun a b => max_comm a b⟩
  haveI : Std.Associative (FloatOps.maximumf : Ideal .f32 → Ideal .f32 → Ideal .f32) := ⟨fun a b c => max_assoc a b c⟩
  rw [Host.reduce_eq_fold_single _ _ _ _ (by decide +kernel) _ j]
  have e : constant (F := Ideal) S_ .f32 0xFF800000#32 (Shape.Idx.first h_S_) = (⊥ : EReal) := ofBits_neg_inf
  rw [e]
  exact fold_max_real Finset.univ ⟨(0 : Fin 32768), Finset.mem_univ _⟩ _ fun i _ => hv _

theorem logSum_at (v : FVec Ideal S512x32768 .f32) (a : FVec Ideal S512 .f32) (r : Fin 512) :
    logSum v a (ix1 r) = a (ix1 r) + Ideal.log (∑ k : Fin 32768, Ideal.exp (v (ix2 r k) - a (ix1 r))) := by
  pointwise [logSum]

theorem wrapped_at (n : BitVec 32) (a : IVec S512 32) (r : Fin 512) (h : (a (ix1 r)).toNat < 2 ^ 31) :
    wrapped n a (ix1 r) = a (ix1 r) := by
  pointwise [wrapped]
  unfold Scalar.select IntOp.cmpi
  rw [if_neg]
  have e : (a (ix1 r)).toInt = (a (ix1 r)).toNat := by rw [BitVec.toInt_eq_toNat_cond, if_pos (by omega)]
  show BitVec.ofBool (BitVec.slt _ _) ≠ 1#1
  rw [BitVec.slt_eq_decide, e, decide_eq_false (by simp)]
  decide

theorem starts_at (l : IVec S512 32) (r : Fin 512) (h : (l (ix1 r)).toNat < 2 ^ 31) :
    starts l (ix2 r 0) = BitVec.ofNat 32 r.val ∧ starts l (ix2 r 1) = l (ix1 r) := by
  have e : (iotaInDim S512 32 0) (ix1 r) = BitVec.ofNat 32 r.val := by pointwise []
  constructor
  · refine Eq.trans ?_ ((wrapped_at 512#32 (iotaInDim S512 32 0) r ?_).trans e)
    · pointwise [starts, Value.fn_main_v26]
    · rw [e, BitVec.toNat_ofNat]
      omega
  · refine Eq.trans ?_ (wrapped_at 32768#32 l r h)
    pointwise [starts, Value.fn_main_v26]

theorem gather_at (v : FVec Ideal S512x32768 .f32) (i : IVec S512x2 32) (r : Fin 512) :
    (Host.gather gather_S512x32768_S512x2_S512_n_01_n_n_01_1_11 v i : FVec Ideal S512 .f32) (ix1 r)
      = v (ix2 ⟨min (i (ix2 r 0)).toInt.toNat 511, by omega⟩ ⟨min (i (ix2 r 1)).toInt.toNat 32767, by omega⟩) := by
  unfold Host.gather
  congr 1
  funext a
  refine Fin.ext ?_
  show (gather_S512x32768_S512x2_S512_n_01_n_n_01_1_11).start (ix1 r) i a
    + (gather_S512x32768_S512x2_S512_n_01_n_n_01_1_11).batchCoord (ix1 r) a
    + (gather_S512x32768_S512x2_S512_n_01_n_n_01_1_11).offCoord (ix1 r) a = _
  have hk : a ∉ gather_S512x32768_S512x2_S512_n_01_n_n_01_1_11.sKept := by revert a; decide +kernel
  have hb : a ∉ gather_S512x32768_S512x2_S512_n_01_n_n_01_1_11.operandBatchingDims := List.not_mem_nil
  have hs : a ∈ gather_S512x32768_S512x2_S512_n_01_n_n_01_1_11.startIndexMap := by revert a; decide +kernel
  rw [GatherDims.batchCoord_eq_zero _ _ _ hb, GatherDims.offCoord_eq_zero _ _ _ hk]
  unfold GatherDims.start
  rw [dif_pos hs]
  match a with
  | ⟨0, _⟩ =>
    refine (Nat.add_zero _).trans ((Nat.add_zero _).trans ?_)
    show min (i _).toInt.toNat 511 = min (i _).toInt.toNat 511
    congr 4
    funext b
    match b with
    | ⟨0, _⟩ => rfl
    | ⟨1, _⟩ => rfl
  | ⟨1, _⟩ =>
    refine (Nat.add_zero _).trans ((Nat.add_zero _).trans ?_)
    show min (i _).toInt.toNat 32767 = min (i _).toInt.toNat 32767
    congr 4
    funext b
    match b with
    | ⟨0, _⟩ => rfl
    | ⟨1, _⟩ => rfl

/-- The gather reads the label's logit. -/
theorem picked_at (v : FVec Ideal S512x32768 .f32) (l : IVec S512 32) (r : Fin 512) (h : (l (ix1 r)).toNat < 32768) :
    (Host.gather gather_S512x32768_S512x2_S512_n_01_n_n_01_1_11 v (starts l) : FVec Ideal S512 .f32) (ix1 r)
      = v (ix2 r ⟨(l (ix1 r)).toNat, h⟩) := by
  obtain ⟨e0, e1⟩ := starts_at l r (by omega)
  have er : ((BitVec.ofNat 32 r.val).toInt).toNat = r.val := by
    rw [BitVec.toInt_eq_toNat_cond, BitVec.toNat_ofNat, if_pos (by omega)]; omega
  have el : (l (ix1 r)).toInt.toNat = (l (ix1 r)).toNat := by
    rw [BitVec.toInt_eq_toNat_cond, if_pos (by omega)]; omega
  rw [gather_at]
  refine congrArg v (congrArg₂ ix2 (Fin.ext ?_) (Fin.ext ?_))
  · show min (starts l (ix2 r 0)).toInt.toNat 511 = r.val
    rw [e0, er]; omega
  · show min (starts l (ix2 r 1)).toInt.toNat 32767 = (l (ix1 r)).toNat
    rw [e1, el]; omega

/-! ## Finite arguments -/

section Finite
variable (x : (⟨2, ![512, 1024]⟩ : Shape).Idx → ℝ) (w : (⟨2, ![1024, 32768]⟩ : Shape).Idx → ℝ)
  (x' : FVec Ideal S512x1024 .bf16) (w' : FVec Ideal S1024x32768 .bf16)
  (hx : ∀ j, x' j = (x j : EReal)) (hw : ∀ j, w' j = (w j : EReal))
include hx hw

theorem logits_real (r : Fin 512) (v : Fin 32768) : logits x' w' (ix2 r v) = (logit x w r v : EReal) := by
  rw [logits_at]
  unfold logit
  rw [← coe_sum]
  exact Finset.sum_congr rfl fun k _ => by rw [hx, hw, EReal.coe_mul]

theorem logits_some_real (j : S512x32768.Idx) : ∃ q : ℝ, logits x' w' j = (q : EReal) := by
  refine ⟨logit x w (j 0) (j 1), Eq.trans (congrArg _ (funext fun a => ?_)) (logits_real x w x' w' hx hw (j 0) (j 1))⟩
  match a with
  | ⟨0, _⟩ => rfl
  | ⟨1, _⟩ => rfl

/-- Row `r` of the reference's result is the row's loss. -/
theorem result_real (l : IVec S512 32) (r : Fin 512) (h : (l (ix1 r)).toNat < 32768) :
    result x' w' l (ix1 r) = (loss x w ⟨(l (ix1 r)).toNat, h⟩ r : EReal) := by
  obtain ⟨a, ha⟩ := top_real (logits x' w') (logits_some_real x w x' w' hx hw) (ix1 r)
  unfold result loss
  rw [subf_at, logSum_at, picked_at _ l r h, logits_real x w x' w' hx hw, ha]
  have e : ∑ k : Fin 32768, Ideal.exp (logits x' w' (ix2 r k) - (a : EReal)) = ((∑ k : Fin 32768, Real.exp (logit x w r k - a) : ℝ) : EReal) := by
    rw [← coe_sum]
    exact Finset.sum_congr rfl fun k _ => by rw [logits_real x w x' w' hx hw, ← EReal.coe_sub, Ideal.exp_coe]
  rw [e, log_of_pos _ (sum_exp_pos fun k => logit x w r k - a), ← EReal.coe_add, shift_log_sum, ← EReal.coe_sub]

end Finite

end Cert.ValueReferenceIdeal

end
-- ==== Proof.Finite.lean ====
/-
What the precondition says of one device's blocks: the entries of the activations and of the weights are real numbers, and
every label, read as a natural number, is below the size of the vocabulary.
-/
module

public import proofs.«01_k».proof.Proof.Gen.Pre_finite_and_named_KernelIdeal
public import proofs.«01_k».proof.Proof.Logs
public import Idealize.ShloMosaic.Lib.Pipeline.ValueKit

@[expose] public section

noncomputable section

namespace Cert.Finite

open Cert.Pre_finite_and_named_KernelIdeal Cert.Pre_finite_and_named_KernelIdeal.Gen
open Idealize.ShloMosaic
open Cert.Logs

theorem ofBits_inf : Ideal.ofBits .bf16 0x7F80#16 = (⊤ : EReal) := by simp [Ideal.ofBits, Ideal.ieee]

theorem real_of_cmp (x : EReal) (h : Ideal.cmp .olt (max x (-x)) (Ideal.ofBits .bf16 0x7F80#16) = 1#1) : x = ((x.toReal : ℝ) : EReal) := by
  refine real_of_abs_lt x ?_
  rw [ofBits_inf] at h
  by_contra hn
  have e : Ideal.cmp .olt (max x (-x)) ⊤ = BitVec.ofBool (decide (max x (-x) < ⊤)) := rfl
  rw [e, decide_eq_false hn] at h
  exact absurd h (by decide)

variable (x : FVec Ideal S512x1024 .bf16) (w : FVec Ideal S1024x8192 .bf16) (l : IVec S512 32)

theorem x_real (h : (fn (F := Ideal) x w l).1 = fun _ => 1#1) (j : S512x1024.Idx) : x j = (((x j).toReal : ℝ) : EReal) :=
  real_of_cmp _ (congrFun h j)

theorem w_real (h : (fn (F := Ideal) x w l).2.1 = fun _ => 1#1) (j : S1024x8192.Idx) : w j = (((w j).toReal : ℝ) : EReal) :=
  real_of_cmp _ (congrFun h j)

theorem label_lt (h : (fn (F := Ideal) x w l).2.2 = fun _ => 1#1) (j : S512.Idx) : (l j).toNat < 32768 := by
  have h' : BitVec.ofBool (BitVec.sle 0#32 (l j)) &&& BitVec.ofBool (BitVec.slt (l j) 32768#32) = 1#1 := congrFun h j
  have hb : ∀ a b : Bool, BitVec.ofBool a &&& BitVec.ofBool b = 1#1 → a = true ∧ b = true := by decide
  obtain ⟨h0, h1⟩ := hb _ _ h'
  rw [BitVec.sle_eq_decide, decide_eq_true_iff] at h0
  rw [BitVec.slt_eq_decide, decide_eq_true_iff] at h1
  have e0 : (0#32 : BitVec 32).toInt = 0 := by decide
  have e1 : (32768#32 : BitVec 32).toInt = 32768 := by decide
  rw [e0] at h0
  rw [e1] at h1
  have hl := (l j).isLt
  rw [BitVec.toInt_eq_toNat_cond] at h0 h1
  split at h0 <;> omega

end Cert.Finite

end
-- ==== Proof.Agree.lean ====
/-
`KernelIdeal` and `ReferenceIdeal` agree: on arguments of which the precondition holds, given to the devices by blocks of
columns of the weights, every device's result is the reference's.
-/
module

public import proofs.«01_k».proof.Defs
public import proofs.«01_k».proof.Proof.EndKernelIdeal
public import proofs.«01_k».proof.Proof.ValueKernelIdeal
public import proofs.«01_k».proof.Proof.ValueReferenceIdeal
public import proofs.«01_k».proof.Proof.Finite
public import proofs.«01_k».proof.Proof.Gen.ReferenceIdeal

@[expose] public section

noncomputable section

namespace Cert.Agree

open Idealize.ShloMosaic Idealize.SL.Sem
open Cert.Logs
open Cert.ValueKernelIdeal (place wcol)

/-! ## The blocks of the weights -/

theorem place_mesh : ∀ c : Dev Cert.KernelIdeal.nD, Layout.meshLin [2, 2, 4] c.val [2] = (place c).val := by decide +kernel

/-- Column `wcol i j` of device `c`'s block is column `col (place c) i j` of the whole weights. -/
theorem block_at (c : Dev Cert.KernelIdeal.nD) (w : (⟨2, ![1024, 32768]⟩ : Shape).Idx → EReal) (k : Fin 1024) (i : Fin 8) (j : Fin 1024) :
    (Layout.blockN ⟨2, ![1024, 8192]⟩ ⟨2, ![1024, 32768]⟩ (Layout.meshBlock [2, 2, 4] ![[], [2]] c) w) (ix2 k (wcol i j))
      = w (ix2 k (col (place c) i j)) := by
  rw [Layout.blockN_apply]
  refine congrArg w (funext fun a => Fin.ext ?_)
  match a with
  | ⟨0, _⟩ =>
    refine (Layout.TilesN.idx_val _ _ _ _).trans ?_
    show 0 * 1024 + k.val = k.val
    omega
  | ⟨1, _⟩ =>
    refine (Layout.TilesN.idx_val _ _ _ _).trans ?_
    show Layout.meshLin [2, 2, 4] c.val [2] * 8192 + (1024 * i.val + j.val) = 8192 * (place c).val + 1024 * i.val + j.val
    rw [place_mesh]
    omega

/-- Every column of the whole weights is one of these. -/
theorem col_surj (v : Fin 32768) : ∃ (c : Dev Cert.KernelIdeal.nD) (i : Fin 8) (j : Fin 1024), v = col (place c) i j := by
  refine ⟨⟨v.val / 8192, ?_⟩, ⟨v.val % 8192 / 1024, by omega⟩, ⟨v.val % 1024, by omega⟩, Fin.ext ?_⟩
  · show v.val / 8192 < 16
    omega
  · show v.val = 8192 * (v.val / 8192 % 4) + 1024 * (v.val % 8192 / 1024) + v.val % 1024
    omega

theorem ix2_self {a b : ℕ} (j : (⟨2, ![a, b]⟩ : Shape).Idx) : ∃ (p : Fin a) (q : Fin b), j = ix2 p q :=
  ⟨j 0, j 1, funext fun i => by
    match i with
    | ⟨0, _⟩ => rfl
    | ⟨1, _⟩ => rfl⟩

theorem ix1_self {a : ℕ} (j : (⟨1, ![a]⟩ : Shape).Idx) : ∃ p : Fin a, j = ix1 p :=
  ⟨j 0, funext fun i => by
    match i with
    | ⟨0, _⟩ => rfl⟩

/-! ## The claim -/

/-- Every device's result is the reference's. -/
theorem results_agree
    (m : (ℓ : Loc Cert.KernelIdeal.nD Cert.KernelIdeal.τ Cert.KernelIdeal.sig) → Buf (Elt Ideal) ℓ)
    (x : FVec Ideal ⟨2, ![512, 1024]⟩ .bf16) (w : FVec Ideal ⟨2, ![1024, 32768]⟩ .bf16) (l : IVec ⟨1, ![512]⟩ 32)
    (hP : Cert.Pre_KernelIdeal_finite_and_named_KernelIdeal (hPre_finite_and_named_KernelIdeal := Cert.Pre_finite_and_named_KernelIdeal.Gen.facts) m)
    (h0 : ∀ c : Dev Cert.KernelIdeal.nD, m ((c.tc : Thread Cert.KernelIdeal.nD Cert.KernelIdeal.τ).loc Cert.KernelIdeal.main_arg0) = x)
    (h1 : ∀ c : Dev Cert.KernelIdeal.nD, m ((c.tc : Thread Cert.KernelIdeal.nD Cert.KernelIdeal.τ).loc Cert.KernelIdeal.main_arg1)
      = Layout.blockN ⟨2, ![1024, 8192]⟩ ⟨2, ![1024, 32768]⟩ (Layout.meshBlock [2, 2, 4] ![[], [2]] c) w)
    (h2 : ∀ c : Dev Cert.KernelIdeal.nD, m ((c.tc : Thread Cert.KernelIdeal.nD Cert.KernelIdeal.τ).loc Cert.KernelIdeal.main_arg2) = l)
    (c : Dev Cert.KernelIdeal.nD) : Cert.RingKernelIdeal.outAt m c = Cert.ValueReferenceIdeal.result x w l := by
  have hb : ∀ (c : Dev Cert.KernelIdeal.nD) (k : Fin 1024) (i : Fin 8) (j : Fin 1024),
      m ((c.tc : Thread Cert.KernelIdeal.nD Cert.KernelIdeal.τ).loc Cert.KernelIdeal.main_arg1) (ix2 k (wcol i j)) = w (ix2 k (col (place c) i j)) :=
    fun c k i j => (congrFun (h1 c) _).trans (block_at c w k i j)
  have hx : ∀ j, x j = (((x j : EReal).toReal : ℝ) : EReal) := fun j => by
    have h := Cert.Finite.x_real _ _ _ (hP c).1 j
    rw [h0 c] at h
    exact h
  have hw : ∀ j, w j = (((w j : EReal).toReal : ℝ) : EReal) := fun j => by
    obtain ⟨k, v, rfl⟩ := ix2_self j
    obtain ⟨d, i, q, rfl⟩ := col_surj v
    have h := Cert.Finite.w_real _ _ _ (hP d).2.1 (ix2 k (wcol i q))
    rw [hb d k i q] at h
    exact h
  have hl : ∀ r : Fin 512, (l (ix1 r)).toNat < 32768 := fun r => by
    have h := Cert.Finite.label_lt _ _ _ (hP c).2.2 (ix1 r)
    rw [h2 c] at h
    exact h
  funext j
  obtain ⟨r, rfl⟩ := ix1_self j
  refine (Cert.ValueKernelIdeal.out_real m (fun j => (x j : EReal).toReal) (fun j => (w j : EReal).toReal) l
    (fun c j => (congrFun (h0 c) j).trans (hx j)) (fun c k i j => (hb c k i j).trans (hw _)) h2 c r (hl r)).trans ?_
  exact (Cert.ValueReferenceIdeal.result_real _ _ x w hx hw l r (hl r)).symm

theorem algebraic : Cert.algebraic_KernelIdeal_ReferenceIdeal_pre_finite_and_named_KernelIdeal (hKernelIdeal := Cert.KernelIdeal.Gen.facts)
    (hReferenceIdeal := Cert.ReferenceIdeal.Gen.facts)
    (hPre_finite_and_named_KernelIdeal := Cert.Pre_finite_and_named_KernelIdeal.Gen.facts) := fun m g m' g' hP hA =>
  ⟨Cert.ValueReferenceIdeal.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun r h c =>
        ⟨(h.1 c).1.trans (results_agree m _ _ _ hP (fun c => (hA c).1) (fun c => (hA c).2.1) (fun c => (hA c).2.2) c), (h.1 c).2⟩)
      (Cert.RingKernelIdeal.run_read g m),
    (θ_run Cert.ReferenceIdeal.defs _ _).mono (fun r h => h 0) (Cert.ReferenceIdeal.Value.run m' g')⟩

end Cert.Agree

end
-- ==== Proof.lean ====
/-
The proof of `Cert.Claim`.
-/
module

public import proofs.«01_k».proof.Defs
public import proofs.«01_k».proof.Proof.EndKernel
public import proofs.«01_k».proof.Proof.EndKernelIdeal
public import proofs.«01_k».proof.Proof.Agree
public import proofs.«01_k».proof.Proof.Gen.ReferenceIdeal
public import proofs.«01_k».proof.Proof.Gen.ReferenceIdeal.Run
public import proofs.«01_k».proof.Proof.Gen.Pre_finite_and_named_KernelIdeal
public import proofs.«01_k».proof.Proof.Gen.Pre_finite_and_named_ReferenceIdeal

@[expose] public section

noncomputable section

namespace Cert.Proof

open Idealize.ShloMosaic Idealize.SL.Sem

/-- The reference has no semaphore, so its counters are zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.Pre_finite_and_named_KernelIdeal.Gen.facts, Cert.Pre_finite_and_named_ReferenceIdeal.Gen.facts,
  fun m g _ => Cert.RingKernel.run_frame g m, fun m g _ => Cert.RingKernelIdeal.run_frame g m, fun m g _ => Cert.RingKernelIdeal.run_frame g m,
  fun m g _ => frame_reference m g, fun m g _ => frame_reference m g, trivial, Cert.Agree.algebraic⟩

end Cert.Proof

end
